-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_ids [hPre_distinct_ids : Cert.Pre_distinct_ids.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_ids [hPre_distinct_ids : Cert.Pre_distinct_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_distinct_ids [hKernelIdeal : Cert.KernelIdeal.Facts] [hPre_distinct_ids : Cert.Pre_distinct_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_distinct_ids [hReferenceIdeal : Cert.ReferenceIdeal.Facts] [hPre_distinct_ids : Cert.Pre_distinct_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_distinct_ids [hKernelIdeal : Cert.KernelIdeal.Facts] [hReferenceIdeal : Cert.ReferenceIdeal.Facts] [hPre_distinct_ids : Cert.Pre_distinct_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_distinct_ids : Cert.Pre_distinct_ids.Facts),
    quiescent_Kernel (hKernel := hKernel)
    ∧ quiescent_KernelIdeal (hKernelIdeal := hKernelIdeal)
    ∧ quiescent_KernelIdeal_pre_distinct_ids (hKernelIdeal := hKernelIdeal) (hPre_distinct_ids := hPre_distinct_ids)
    ∧ quiescent_ReferenceIdeal (hReferenceIdeal := hReferenceIdeal)
    ∧ quiescent_ReferenceIdeal_pre_distinct_ids (hReferenceIdeal := hReferenceIdeal) (hPre_distinct_ids := hPre_distinct_ids)
    ∧ preserves_Kernel_KernelIdeal
    ∧ algebraic_KernelIdeal_ReferenceIdeal_pre_distinct_ids (hKernelIdeal := hKernelIdeal) (hReferenceIdeal := hReferenceIdeal) (hPre_distinct_ids := hPre_distinct_ids)
-- ==== Pre_distinct_ids.lean ====
abbrev S2x16384x6144 : Shape := ⟨3, ![2, 16384, 6144]⟩
abbrev S2x16384 : Shape := ⟨2, ![2, 16384]⟩
abbrev S6144x160 : Shape := ⟨2, ![6144, 160]⟩
abbrev S2x16384x6 : Shape := ⟨3, ![2, 16384, 6]⟩
abbrev S2x16384x1 : Shape := ⟨3, ![2, 16384, 1]⟩
abbrev S1x2x16384 : Shape := ⟨3, ![1, 2, 16384]⟩
abbrev S15x2x16384 : Shape := ⟨3, ![15, 2, 16384]⟩
abbrev S_ : Shape := ⟨0, ![]⟩

class Facts : Prop where
  slices_S2x16384x6_S2x16384x1_0_0_0 : S2x16384x6.Slices ![0, 0, 0] S2x16384x1
  shapeCasts_S2x16384x1_S2x16384 : S2x16384x1.ShapeCasts S2x16384
  slices_S2x16384x6_S2x16384x1_0_0_1 : S2x16384x6.Slices ![0, 0, 1] S2x16384x1
  slices_S2x16384x6_S2x16384x1_0_0_2 : S2x16384x6.Slices ![0, 0, 2] S2x16384x1
  slices_S2x16384x6_S2x16384x1_0_0_3 : S2x16384x6.Slices ![0, 0, 3] S2x16384x1
  slices_S2x16384x6_S2x16384x1_0_0_4 : S2x16384x6.Slices ![0, 0, 4] S2x16384x1
  slices_S2x16384x6_S2x16384x1_0_0_5 : S2x16384x6.Slices ![0, 0, 5] S2x16384x1
  bcast_S2x16384_S1x2x16384_1_2 : S2x16384.BroadcastsInDim S1x2x16384 (![1, 2] : Fin 2 → Fin S1x2x16384.rank)
  concatenates_S1x2x16384_S1x2x16384_S1x2x16384_S1x2x16384_S1x2x16384_S1x2x16384_S1x2x16384_S1x2x16384_S1x2x16384_S1x2x16384_S1x2x16384_S1x2x16384_S1x2x16384_S1x2x16384_S1x2x16384_S15x2x16384_d0 : Shape.Concatenates [S1x2x16384, S1x2x16384, S1x2x16384, S1x2x16384, S1x2x16384, S1x2x16384, S1x2x16384, S1x2x16384, S1x2x16384, S1x2x16384, S1x2x16384, S1x2x16384, S1x2x16384, S1x2x16384, S1x2x16384] S15x2x16384 0
  reducesTo_S15x2x16384_S_d0_1_2 : S15x2x16384.ReducesTo [0, 1, 2] S_
  h_S_ : 0 < S_.numel

variable [Facts]

def fn_part3 {F : FTy → Type} [FloatOps F] (main_arg3 : IVec S2x16384x6 32) (main_v4 : IVec S2x16384 1) (main_v9 : IVec S2x16384 1) (main_v14 : IVec S2x16384 1) (main_v19 : IVec S2x16384 1) (main_v24 : IVec S2x16384 1) (main_v29 : IVec S2x16384 1) (main_v34 : IVec S2x16384 1) (main_v39 : IVec S2x16384 1) (main_v44 : IVec S2x16384 1) (main_v49 : IVec S2x16384 1) (main_v54 : IVec S2x16384 1) (main_v59 : IVec S2x16384 1) (main_v64 : IVec S2x16384 1) (main_v69 : IVec S2x16384 1) (main_v71 : IVec S2x16384 32) : IVec S_ 1 :=
  let main_v72 : IVec S2x16384x1 32 := (extractStridedSlice S2x16384x1 ![0, 0, 5] · slices_S2x16384x6_S2x16384x1_0_0_5) main_arg3
  let main_v73 : IVec S2x16384 32 := shapeCast S2x16384 main_v72 shapeCasts_S2x16384x1_S2x16384
  let main_v74 : IVec S2x16384 1 := cmpi .ne main_v71 main_v73
  let main_v75 : IVec S1x2x16384 1 := broadcastInDim S1x2x16384 ![1, 2] bcast_S2x16384_S1x2x16384_1_2 main_v4
  let main_v76 : IVec S1x2x16384 1 := broadcastInDim S1x2x16384 ![1, 2] bcast_S2x16384_S1x2x16384_1_2 main_v9
  let main_v77 : IVec S1x2x16384 1 := broadcastInDim S1x2x16384 ![1, 2] bcast_S2x16384_S1x2x16384_1_2 main_v14
  let main_v78 : IVec S1x2x16384 1 := broadcastInDim S1x2x16384 ![1, 2] bcast_S2x16384_S1x2x16384_1_2 main_v19
  let main_v79 : IVec S1x2x16384 1 := broadcastInDim S1x2x16384 ![1, 2] bcast_S2x16384_S1x2x16384_1_2 main_v24
  let main_v80 : IVec S1x2x16384 1 := broadcastInDim S1x2x16384 ![1, 2] bcast_S2x16384_S1x2x16384_1_2 main_v29
  let main_v81 : IVec S1x2x16384 1 := broadcastInDim S1x2x16384 ![1, 2] bcast_S2x16384_S1x2x16384_1_2 main_v34
  let main_v82 : IVec S1x2x16384 1 := broadcastInDim S1x2x16384 ![1, 2] bcast_S2x16384_S1x2x16384_1_2 main_v39
  let main_v83 : IVec S1x2x16384 1 := broadcastInDim S1x2x16384 ![1, 2] bcast_S2x16384_S1x2x16384_1_2 main_v44
  let main_v84 : IVec S1x2x16384 1 := broadcastInDim S1x2x16384 ![1, 2] bcast_S2x16384_S1x2x16384_1_2 main_v49
  let main_v85 : IVec S1x2x16384 1 := broadcastInDim S1x2x16384 ![1, 2] bcast_S2x16384_S1x2x16384_1_2 main_v54
  let main_v86 : IVec S1x2x16384 1 := broadcastInDim S1x2x16384 ![1, 2] bcast_S2x16384_S1x2x16384_1_2 main_v59
  let main_v87 : IVec S1x2x16384 1 := broadcastInDim S1x2x16384 ![1, 2] bcast_S2x16384_S1x2x16384_1_2 main_v64
  let main_v88 : IVec S1x2x16384 1 := broadcastInDim S1x2x16384 ![1, 2] bcast_S2x16384_S1x2x16384_1_2 main_v69
  let main_v89 : IVec S1x2x16384 1 := broadcastInDim S1x2x16384 ![1, 2] bcast_S2x16384_S1x2x16384_1_2 main_v74
  let main_v90 : IVec S15x2x16384 1 := concatenate S15x2x16384 0 [⟨S1x2x16384, main_v75⟩, ⟨S1x2x16384, main_v76⟩, ⟨S1x2x16384, main_v77⟩, ⟨S1x2x16384, main_v78⟩, ⟨S1x2x16384, main_v79⟩, ⟨S1x2x16384, main_v80⟩, ⟨S1x2x16384, main_v81⟩, ⟨S1x2x16384, main_v82⟩, ⟨S1x2x16384, main_v83⟩, ⟨S1x2x16384, main_v84⟩, ⟨S1x2x16384, main_v85⟩, ⟨S1x2x16384, main_v86⟩, ⟨S1x2x16384, main_v87⟩, ⟨S1x2x16384, main_v88⟩, ⟨S1x2x16384, main_v89⟩] concatenates_S1x2x16384_S1x2x16384_S1x2x16384_S1x2x16384_S1x2x16384_S1x2x16384_S1x2x16384_S1x2x16384_S1x2x16384_S1x2x16384_S1x2x16384_S1x2x16384_S1x2x16384_S1x2x16384_S1x2x16384_S15x2x16384_d0
  let main_c : IVec S_ 1 := constantI S_ 1 1#1
  let main_v91 : IVec S_ 1 := (fun x v => Host.reduce IntOp.andi x v reducesTo_S15x2x16384_S_d0_1_2 h_S_) main_v90 main_c
  main_v91

def fn_part2 {F : FTy → Type} [FloatOps F] (main_arg3 : IVec S2x16384x6 32) (main_v4 : IVec S2x16384 1) (main_v9 : IVec S2x16384 1) (main_v14 : IVec S2x16384 1) (main_v19 : IVec S2x16384 1) (main_v24 : IVec S2x16384 1) (main_v29 : IVec S2x16384 1) (main_v34 : IVec S2x16384 1) (main_v39 : IVec S2x16384 1) (main_v44 : IVec S2x16384 1) (main_v46 : IVec S2x16384 32) (main_v47 : IVec S2x16384x1 32) : IVec S_ 1 :=
  let main_v48 : IVec S2x16384 32 := shapeCast S2x16384 main_v47 shapeCasts_S2x16384x1_S2x16384
  let main_v49 : IVec S2x16384 1 := cmpi .ne main_v46 main_v48
  let main_v50 : IVec S2x16384x1 32 := (extractStridedSlice S2x16384x1 ![0, 0, 0] · slices_S2x16384x6_S2x16384x1_0_0_0) main_arg3
  let main_v51 : IVec S2x16384 32 := shapeCast S2x16384 main_v50 shapeCasts_S2x16384x1_S2x16384
  let main_v52 : IVec S2x16384x1 32 := (extractStridedSlice S2x16384x1 ![0, 0, 5] · slices_S2x16384x6_S2x16384x1_0_0_5) main_arg3
  let main_v53 : IVec S2x16384 32 := shapeCast S2x16384 main_v52 shapeCasts_S2x16384x1_S2x16384
  let main_v54 : IVec S2x16384 1 := cmpi .ne main_v51 main_v53
  let main_v55 : IVec S2x16384x1 32 := (extractStridedSlice S2x16384x1 ![0, 0, 1] · slices_S2x16384x6_S2x16384x1_0_0_1) main_arg3
  let main_v56 : IVec S2x16384 32 := shapeCast S2x16384 main_v55 shapeCasts_S2x16384x1_S2x16384
  let main_v57 : IVec S2x16384x1 32 := (extractStridedSlice S2x16384x1 ![0, 0, 5] · slices_S2x16384x6_S2x16384x1_0_0_5) main_arg3
  let main_v58 : IVec S2x16384 32 := shapeCast S2x16384 main_v57 shapeCasts_S2x16384x1_S2x16384
  let main_v59 : IVec S2x16384 1 := cmpi .ne main_v56 main_v58
  let main_v60 : IVec S2x16384x1 32 := (extractStridedSlice S2x16384x1 ![0, 0, 2] · slices_S2x16384x6_S2x16384x1_0_0_2) main_arg3
  let main_v61 : IVec S2x16384 32 := shapeCast S2x16384 main_v60 shapeCasts_S2x16384x1_S2x16384
  let main_v62 : IVec S2x16384x1 32 := (extractStridedSlice S2x16384x1 ![0, 0, 5] · slices_S2x16384x6_S2x16384x1_0_0_5) main_arg3
  let main_v63 : IVec S2x16384 32 := shapeCast S2x16384 main_v62 shapeCasts_S2x16384x1_S2x16384
  let main_v64 : IVec S2x16384 1 := cmpi .ne main_v61 main_v63
  let main_v65 : IVec S2x16384x1 32 := (extractStridedSlice S2x16384x1 ![0, 0, 3] · slices_S2x16384x6_S2x16384x1_0_0_3) main_arg3
  let main_v66 : IVec S2x16384 32 := shapeCast S2x16384 main_v65 shapeCasts_S2x16384x1_S2x16384
  let main_v67 : IVec S2x16384x1 32 := (extractStridedSlice S2x16384x1 ![0, 0, 5] · slices_S2x16384x6_S2x16384x1_0_0_5) main_arg3
  let main_v68 : IVec S2x16384 32 := shapeCast S2x16384 main_v67 shapeCasts_S2x16384x1_S2x16384
  let main_v69 : IVec S2x16384 1 := cmpi .ne main_v66 main_v68
  let main_v70 : IVec S2x16384x1 32 := (extractStridedSlice S2x16384x1 ![0, 0, 4] · slices_S2x16384x6_S2x16384x1_0_0_4) main_arg3
  let main_v71 : IVec S2x16384 32 := shapeCast S2x16384 main_v70 shapeCasts_S2x16384x1_S2x16384
  fn_part3 (F := F) main_arg3 main_v4 main_v9 main_v14 main_v19 main_v24 main_v29 main_v34 main_v39 main_v44 main_v49 main_v54 main_v59 main_v64 main_v69 main_v71

def fn_part1 {F : FTy → Type} [FloatOps F] (main_arg3 : IVec S2x16384x6 32) (main_v4 : IVec S2x16384 1) (main_v9 : IVec S2x16384 1) (main_v14 : IVec S2x16384 1) (main_v19 : IVec S2x16384 1) (main_v21 : IVec S2x16384 32) (main_v23 : IVec S2x16384 32) : IVec S_ 1 :=
  let main_v24 : IVec S2x16384 1 := cmpi .ne main_v21 main_v23
  let main_v25 : IVec S2x16384x1 32 := (extractStridedSlice S2x16384x1 ![0, 0, 2] · slices_S2x16384x6_S2x16384x1_0_0_2) main_arg3
  let main_v26 : IVec S2x16384 32 := shapeCast S2x16384 main_v25 shapeCasts_S2x16384x1_S2x16384
  let main_v27 : IVec S2x16384x1 32 := (extractStridedSlice S2x16384x1 ![0, 0, 3] · slices_S2x16384x6_S2x16384x1_0_0_3) main_arg3
  let main_v28 : IVec S2x16384 32 := shapeCast S2x16384 main_v27 shapeCasts_S2x16384x1_S2x16384
  let main_v29 : IVec S2x16384 1 := cmpi .ne main_v26 main_v28
  let main_v30 : IVec S2x16384x1 32 := (extractStridedSlice S2x16384x1 ![0, 0, 0] · slices_S2x16384x6_S2x16384x1_0_0_0) main_arg3
  let main_v31 : IVec S2x16384 32 := shapeCast S2x16384 main_v30 shapeCasts_S2x16384x1_S2x16384
  let main_v32 : IVec S2x16384x1 32 := (extractStridedSlice S2x16384x1 ![0, 0, 4] · slices_S2x16384x6_S2x16384x1_0_0_4) main_arg3
  let main_v33 : IVec S2x16384 32 := shapeCast S2x16384 main_v32 shapeCasts_S2x16384x1_S2x16384
  let main_v34 : IVec S2x16384 1 := cmpi .ne main_v31 main_v33
  let main_v35 : IVec S2x16384x1 32 := (extractStridedSlice S2x16384x1 ![0, 0, 1] · slices_S2x16384x6_S2x16384x1_0_0_1) main_arg3
  let main_v36 : IVec S2x16384 32 := shapeCast S2x16384 main_v35 shapeCasts_S2x16384x1_S2x16384
  let main_v37 : IVec S2x16384x1 32 := (extractStridedSlice S2x16384x1 ![0, 0, 4] · slices_S2x16384x6_S2x16384x1_0_0_4) main_arg3
  let main_v38 : IVec S2x16384 32 := shapeCast S2x16384 main_v37 shapeCasts_S2x16384x1_S2x16384
  let main_v39 : IVec S2x16384 1 := cmpi .ne main_v36 main_v38
  let main_v40 : IVec S2x16384x1 32 := (extractStridedSlice S2x16384x1 ![0, 0, 2] · slices_S2x16384x6_S2x16384x1_0_0_2) main_arg3
  let main_v41 : IVec S2x16384 32 := shapeCast S2x16384 main_v40 shapeCasts_S2x16384x1_S2x16384
  let main_v42 : IVec S2x16384x1 32 := (extractStridedSlice S2x16384x1 ![0, 0, 4] · slices_S2x16384x6_S2x16384x1_0_0_4) main_arg3
  let main_v43 : IVec S2x16384 32 := shapeCast S2x16384 main_v42 shapeCasts_S2x16384x1_S2x16384
  let main_v44 : IVec S2x16384 1 := cmpi .ne main_v41 main_v43
  let main_v45 : IVec S2x16384x1 32 := (extractStridedSlice S2x16384x1 ![0, 0, 3] · slices_S2x16384x6_S2x16384x1_0_0_3) main_arg3
  let main_v46 : IVec S2x16384 32 := shapeCast S2x16384 main_v45 shapeCasts_S2x16384x1_S2x16384
  let main_v47 : IVec S2x16384x1 32 := (extractStridedSlice S2x16384x1 ![0, 0, 4] · slices_S2x16384x6_S2x16384x1_0_0_4) main_arg3
  fn_part2 (F := F) main_arg3 main_v4 main_v9 main_v14 main_v19 main_v24 main_v29 main_v34 main_v39 main_v44 main_v46 main_v47

def fn {F : FTy → Type} [FloatOps F] (main_arg0 : FVec F S2x16384x6144 .fp8e4m3) (main_arg1 : FVec F S2x16384 .f32) (main_arg2 : FVec F S6144x160 .bf16) (main_arg3 : IVec S2x16384x6 32) (main_arg4 : FVec F S2x16384x6 .bf16) : IVec S_ 1 :=
  let main_v0 : IVec S2x16384x1 32 := (extractStridedSlice S2x16384x1 ![0, 0, 0] · slices_S2x16384x6_S2x16384x1_0_0_0) main_arg3
  let main_v1 : IVec S2x16384 32 := shapeCast S2x16384 main_v0 shapeCasts_S2x16384x1_S2x16384
  let main_v2 : IVec S2x16384x1 32 := (extractStridedSlice S2x16384x1 ![0, 0, 1] · slices_S2x16384x6_S2x16384x1_0_0_1) main_arg3
  let main_v3 : IVec S2x16384 32 := shapeCast S2x16384 main_v2 shapeCasts_S2x16384x1_S2x16384
  let main_v4 : IVec S2x16384 1 := cmpi .ne main_v1 main_v3
  let main_v5 : IVec S2x16384x1 32 := (extractStridedSlice S2x16384x1 ![0, 0, 0] · slices_S2x16384x6_S2x16384x1_0_0_0) main_arg3
  let main_v6 : IVec S2x16384 32 := shapeCast S2x16384 main_v5 shapeCasts_S2x16384x1_S2x16384
  let main_v7 : IVec S2x16384x1 32 := (extractStridedSlice S2x16384x1 ![0, 0, 2] · slices_S2x16384x6_S2x16384x1_0_0_2) main_arg3
  let main_v8 : IVec S2x16384 32 := shapeCast S2x16384 main_v7 shapeCasts_S2x16384x1_S2x16384
  let main_v9 : IVec S2x16384 1 := cmpi .ne main_v6 main_v8
  let main_v10 : IVec S2x16384x1 32 := (extractStridedSlice S2x16384x1 ![0, 0, 1] · slices_S2x16384x6_S2x16384x1_0_0_1) main_arg3
  let main_v11 : IVec S2x16384 32 := shapeCast S2x16384 main_v10 shapeCasts_S2x16384x1_S2x16384
  let main_v12 : IVec S2x16384x1 32 := (extractStridedSlice S2x16384x1 ![0, 0, 2] · slices_S2x16384x6_S2x16384x1_0_0_2) main_arg3
  let main_v13 : IVec S2x16384 32 := shapeCast S2x16384 main_v12 shapeCasts_S2x16384x1_S2x16384
  let main_v14 : IVec S2x16384 1 := cmpi .ne main_v11 main_v13
  let main_v15 : IVec S2x16384x1 32 := (extractStridedSlice S2x16384x1 ![0, 0, 0] · slices_S2x16384x6_S2x16384x1_0_0_0) main_arg3
  let main_v16 : IVec S2x16384 32 := shapeCast S2x16384 main_v15 shapeCasts_S2x16384x1_S2x16384
  let main_v17 : IVec S2x16384x1 32 := (extractStridedSlice S2x16384x1 ![0, 0, 3] · slices_S2x16384x6_S2x16384x1_0_0_3) main_arg3
  let main_v18 : IVec S2x16384 32 := shapeCast S2x16384 main_v17 shapeCasts_S2x16384x1_S2x16384
  let main_v19 : IVec S2x16384 1 := cmpi .ne main_v16 main_v18
  let main_v20 : IVec S2x16384x1 32 := (extractStridedSlice S2x16384x1 ![0, 0, 1] · slices_S2x16384x6_S2x16384x1_0_0_1) main_arg3
  let main_v21 : IVec S2x16384 32 := shapeCast S2x16384 main_v20 shapeCasts_S2x16384x1_S2x16384
  let main_v22 : IVec S2x16384x1 32 := (extractStridedSlice S2x16384x1 ![0, 0, 3] · slices_S2x16384x6_S2x16384x1_0_0_3) main_arg3
  let main_v23 : IVec S2x16384 32 := shapeCast S2x16384 main_v22 shapeCasts_S2x16384x1_S2x16384
  fn_part1 (F := F) main_arg3 main_v4 main_v9 main_v14 main_v19 main_v21 main_v23
-- ==== Kernel.lean ====
abbrev S2x16384x6144 : Shape := ⟨3, ![2, 16384, 6144]⟩
abbrev S2x16384 : Shape := ⟨2, ![2, 16384]⟩
abbrev S6144x160 : Shape := ⟨2, ![6144, 160]⟩
abbrev S2x16384x6 : Shape := ⟨3, ![2, 16384, 6]⟩
abbrev S160x6144 : Shape := ⟨2, ![160, 6144]⟩
abbrev S6x2x16384 : Shape := ⟨3, ![6, 2, 16384]⟩
abbrev S2x160x16384 : Shape := ⟨3, ![2, 160, 16384]⟩
abbrev S2x256x6144 : Shape := ⟨3, ![2, 256, 6144]⟩
abbrev S2x256 : Shape := ⟨2, ![2, 256]⟩
abbrev S6x2x256 : Shape := ⟨3, ![6, 2, 256]⟩
abbrev S2x160x256 : Shape := ⟨3, ![2, 160, 256]⟩
abbrev S256x6144 : Shape := ⟨2, ![256, 6144]⟩
abbrev S2x256x256 : Shape := ⟨3, ![2, 256, 256]⟩
abbrev S96x6144 : Shape := ⟨2, ![96, 6144]⟩
abbrev S1x256x6144 : Shape := ⟨3, ![1, 256, 6144]⟩
abbrev S160x256 : Shape := ⟨2, ![160, 256]⟩
abbrev S1x256 : Shape := ⟨2, ![1, 256]⟩
abbrev S1x1x256 : Shape := ⟨3, ![1, 1, 256]⟩
abbrev S256 : Shape := ⟨1, ![256]⟩
abbrev S1x160x256 : Shape := ⟨3, ![1, 160, 256]⟩
abbrev S1x256x256 : Shape := ⟨3, ![1, 256, 256]⟩
abbrev S256x256 : Shape := ⟨2, ![256, 256]⟩
abbrev S256x160 : Shape := ⟨2, ![256, 160]⟩
abbrev S256x96 : Shape := ⟨2, ![256, 96]⟩
abbrev S2x16384x160 : Shape := ⟨3, ![2, 16384, 160]⟩

abbrev nBuf : Space → Nat
  | .hbm => 13
  | .vmem => 17
  | .smem => 0
  | _ => 0

abbrev bufTy : (tb : Table) → Fin (tcTables nBuf tb) → BufTy
  | .hbm, ⟨0, _⟩ => ⟨S2x16384x6144, .fp8e4m3⟩
  | .hbm, ⟨1, _⟩ => ⟨S2x16384, .f32⟩
  | .hbm, ⟨2, _⟩ => ⟨S6144x160, .bf16⟩
  | .hbm, ⟨3, _⟩ => ⟨S2x16384x6, .i32⟩
  | .hbm, ⟨4, _⟩ => ⟨S2x16384x6, .bf16⟩
  | .hbm, ⟨5, _⟩ => ⟨S160x6144, .bf16⟩
  | .hbm, ⟨6, _⟩ => ⟨S6x2x16384, .i32⟩
  | .hbm, ⟨7, _⟩ => ⟨S6x2x16384, .bf16⟩
  | .hbm, ⟨8, _⟩ => ⟨S2x16384x6144, .bf16⟩
  | .hbm, ⟨9, _⟩ => ⟨S160x6144, .f32⟩
  | .hbm, ⟨10, _⟩ => ⟨S2x160x16384, .f32⟩
  | .hbm, ⟨11, _⟩ => ⟨S6144x160, .f32⟩
  | .hbm, ⟨12, _⟩ => ⟨S2x16384x160, .f32⟩
  | .local _ .vmem, ⟨0, _⟩ => ⟨S2x256x6144, .fp8e4m3⟩
  | .local _ .vmem, ⟨1, _⟩ => ⟨S2x256x6144, .fp8e4m3⟩
  | .local _ .vmem, ⟨2, _⟩ => ⟨S2x256, .f32⟩
  | .local _ .vmem, ⟨3, _⟩ => ⟨S2x256, .f32⟩
  | .local _ .vmem, ⟨4, _⟩ => ⟨S160x6144, .bf16⟩
  | .local _ .vmem, ⟨5, _⟩ => ⟨S6x2x256, .i32⟩
  | .local _ .vmem, ⟨6, _⟩ => ⟨S6x2x256, .i32⟩
  | .local _ .vmem, ⟨7, _⟩ => ⟨S6x2x256, .bf16⟩
  | .local _ .vmem, ⟨8, _⟩ => ⟨S6x2x256, .bf16⟩
  | .local _ .vmem, ⟨9, _⟩ => ⟨S2x256x6144, .bf16⟩
  | .local _ .vmem, ⟨10, _⟩ => ⟨S2x256x6144, .bf16⟩
  | .local _ .vmem, ⟨11, _⟩ => ⟨S160x6144, .f32⟩
  | .local _ .vmem, ⟨12, _⟩ => ⟨S2x160x256, .f32⟩
  | .local _ .vmem, ⟨13, _⟩ => ⟨S2x160x256, .f32⟩
  | .local _ .vmem, ⟨14, _⟩ => ⟨S256x6144, .bf16⟩
  | .local _ .vmem, ⟨15, _⟩ => ⟨S2x256x256, .bf16⟩
  | .local _ .vmem, ⟨16, _⟩ => ⟨S2x160x256, .bf16⟩
  | _, _ => ⟨S2x16384x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c0_i32_3 : BitVec 32 := 0#32
  let v6 : BitVec 1 := Scalar.cmpi .sgt arg0 c0_i32_3
  let c64_i32 : BitVec 32 := 64#32
  let v7 : BitVec 1 := Scalar.cmpi .slt arg0 c64_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c64_i32_5 : BitVec 32 := 64#32
  let v11 : BitVec 1 := Scalar.cmpi .eq arg0 c64_i32_5
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, c0_i32_0.toNat, v0.toNat]

abbrev stage0_0 : Fin 2 → Memref sig .tc .vmem S2x256x6144 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6x2x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x2x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S160x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x160x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x16384x6144 : Shape := ⟨3, ![2, 16384, 6144]⟩
abbrev S2x16384 : Shape := ⟨2, ![2, 16384]⟩
abbrev S6144x160 : Shape := ⟨2, ![6144, 160]⟩
abbrev S2x16384x6 : Shape := ⟨3, ![2, 16384, 6]⟩
abbrev S2x16384x160 : Shape := ⟨3, ![2, 16384, 160]⟩
abbrev S2x16384x1 : Shape := ⟨3, ![2, 16384, 1]⟩
abbrev S2x16384x6x1 : Shape := ⟨4, ![2, 16384, 6, 1]⟩
abbrev S1x1x1x160 : Shape := ⟨4, ![1, 1, 1, 160]⟩
abbrev S2x16384x6x160 : Shape := ⟨4, ![2, 16384, 6, 160]⟩
abbrev S2x16384x1x160 : Shape := ⟨4, ![2, 16384, 1, 160]⟩

abbrev nBuf : Space → Nat
  | .hbm => 8
  | .vmem => 8
  | .smem => 0
  | _ => 0

abbrev bufTy : (tb : Table) → Fin (tcTables nBuf tb) → BufTy
  | .hbm, ⟨0, _⟩ => ⟨S2x16384x6144, .fp8e4m3⟩
  | .hbm, ⟨1, _⟩ => ⟨S2x16384, .f32⟩
  | .hbm, ⟨2, _⟩ => ⟨S6144x160, .bf16⟩
  | .hbm, ⟨3, _⟩ => ⟨S2x16384x6, .i32⟩
  | .hbm, ⟨4, _⟩ => ⟨S2x16384x6, .bf16⟩
  | .hbm, ⟨5, _⟩ => ⟨S2x16384x6144, .bf16⟩
  | .hbm, ⟨6, _⟩ => ⟨S6144x160, .f32⟩
  | .hbm, ⟨7, _⟩ => ⟨S2x16384x160, .f32⟩
  | .local _ .vmem, ⟨0, _⟩ => ⟨S2x16384x6144, .fp8e4m3⟩
  | .local _ .vmem, ⟨1, _⟩ => ⟨S2x16384, .f32⟩
  | .local _ .vmem, ⟨2, _⟩ => ⟨S6144x160, .bf16⟩
  | .local _ .vmem, ⟨3, _⟩ => ⟨S2x16384x6, .i32⟩
  | .local _ .vmem, ⟨4, _⟩ => ⟨S2x16384x6, .bf16⟩
  | .local _ .vmem, ⟨5, _⟩ => ⟨S2x16384x6144, .bf16⟩
  | .local _ .vmem, ⟨6, _⟩ => ⟨S6144x160, .f32⟩
  | .local _ .vmem, ⟨7, _⟩ => ⟨S2x16384x160, .f32⟩
  | _, _ => ⟨S2x16384x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x16384x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16384x6 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384x6 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16384x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x16384x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Runs.lean ====
/- What the three cases of the kernel body share: its branch conditions over the grid points, the points at which an output
   window is idle, and the memrefs the body runs on. -/
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_1, k0_cond2, e0]
    word_cmp
   : ∀ t : Fin grid0.N, cond0_1 (grid0.coords t) ↔ t.val % 65 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i0 and i0 ≤ 63 — decided over the grid. -/
theorem hcond0_2 : ∀ t : Fin cfg0.N, cond0_2 (grid0.coords t) ↔ (1 ≤ t.val % 65 ∧ t.val % 65 ≤ 63) :=
  (by decide +kernel : ∀ t : Fin grid0.N, cond0_2 (grid0.coords t) ↔ (1 ≤ t.val % 65 ∧ t.val % 65 ≤ 63))

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_3, k0_cond4, e0]
    word_cmp
   : ∀ t : Fin grid0.N, cond0_3 (grid0.coords t) ↔ t.val % 65 = 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ ¬cond0_2 i ∧ cond0_3 i
instance conds0_C.dec (i : grid0.Coords) : Decidable (conds0_C i) :=
  @instDecidableAnd _ _ inferInstance (@instDecidableAnd _ _ inferInstance (@instDecidableAnd _ _ inferInstance inferInstance))
/-- At the points of case B the printed configuration (`Cfg.idle`) calls output 5 live: the case stores into it. -/
theorem liveAt0_5_B : ∀ t : Fin cfg0.N, ¬cond0_0 (grid0.coords t) → ¬cond0_1 (grid0.coords t) → cond0_2 (grid0.coords t) → ¬cond0_3 (grid0.coords t) → cfg0.idle 5 (grid0.coords t) = false :=
  fun t h0 h1 h2 h3 => (by decide +kernel : ∀ t : Fin cfg0.N, conds0_B (grid0.coords t) → cfg0.idle 5 (grid0.coords t) = false) t ⟨h0, h1, h2, h3⟩
/-- At the points of case C the printed configuration (`Cfg.idle`) calls output 5 live: the case stores into it. -/
theorem liveAt0_5_C : ∀ t : Fin cfg0.N, ¬cond0_0 (grid0.coords t) → ¬cond0_1 (grid0.coords t) → ¬cond0_2 (grid0.coords t) → cond0_3 (grid0.coords t) → cfg0.idle 5 (grid0.coords t) = false :=
  fun t h0 h1 h2 h3 => (by decide +kernel : ∀ t : Fin cfg0.N, conds0_C (grid0.coords t) → cfg0.idle 5 (grid0.coords t) = false) t ⟨h0, h1, h2, h3⟩
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x10000000000000000 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → cond0_1 (grid0.coords t) → ¬cond0_2 (grid0.coords t) → ¬cond0_3 (grid0.coords t) → cfg0.idle 6 (grid0.coords t) = false :=
  fun t h0 h1 h2 h3 => (by decide +kernel : ∀ t : Fin cfg0.N, conds0_A (grid0.coords t) → cfg0.idle 6 (grid0.coords t) = false) t ⟨h0, h1, h2, h3⟩
/-- At the points of case B the printed configuration (`Cfg.idle`) calls output 6 live: the case stores into it. -/
theorem liveAt0_6_B : ∀ t : Fin cfg0.N, ¬cond0_0 (grid0.coords t) → ¬cond0_1 (grid0.coords t) → cond0_2 (grid0.coords t) → ¬cond0_3 (grid0.coords t) → cfg0.idle 6 (grid0.coords t) = false :=
  fun t h0 h1 h2 h3 => (by decide +kernel : ∀ t : Fin cfg0.N, conds0_B (grid0.coords t) → cfg0.idle 6 (grid0.coords t) = false) t ⟨h0, h1, h2, h3⟩
/-- At the points of case B, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_B : ∀ t : Fin cfg0.N, ¬cond0_0 (grid0.coords t) → ¬cond0_1 (grid0.coords t) → cond0_2 (grid0.coords t) → ¬cond0_3 (grid0.coords t) → cfg0.fresh 6 t.val = false :=
  fun t h0 h1 h2 h3 => (by intro t; rw [fresh0_6_eq t]; revert t; decide +kernel : ∀ t : Fin cfg0.N, conds0_B (grid0.coords t) → cfg0.fresh 6 t.val = false) t ⟨h0, h1, h2, h3⟩
/-- At the points of case C, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_C : ∀ t : Fin cfg0.N, ¬cond0_0 (grid0.coords t) → ¬cond0_1 (grid0.coords t) → ¬cond0_2 (grid0.coords t) → cond0_3 (grid0.coords t) → cfg0.fresh 6 t.val = false :=
  fun t h0 h1 h2 h3 => (by intro t; rw [fresh0_6_eq t]; revert t; decide +kernel : ∀ t : Fin cfg0.N, conds0_C (grid0.coords t) → cfg0.fresh 6 t.val = false) t ⟨h0, h1, h2, h3⟩
/-- At the points of case A the printed configuration (`Cfg.idle`) calls output 7 live: the case stores into it. -/
theorem liveAt0_7_A : ∀ t : Fin cfg0.N, cond0_0 (grid0.coords t) → cond0_1 (grid0.coords t) → ¬cond0_2 (grid0.coords t) → ¬cond0_3 (grid0.coords t) → cfg0.idle 7 (grid0.coords t) = false :=
  fun t h0 h1 h2 h3 => (by decide +kernel : ∀ t : Fin cfg0.N, conds0_A (grid0.coords t) → cfg0.idle 7 (grid0.coords t) = false) t ⟨h0, h1, h2, h3⟩
/-- At the points of case B the printed configuration (`Cfg.idle`) calls output 7 live: the case stores into it. -/
theorem liveAt0_7_B : ∀ t : Fin cfg0.N, ¬cond0_0 (grid0.coords t) → ¬cond0_1 (grid0.coords t) → cond0_2 (grid0.coords t) → ¬cond0_3 (grid0.coords t) → cfg0.idle 7 (grid0.coords t) = false :=
  fun t h0 h1 h2 h3 => (by decide +kernel : ∀ t : Fin cfg0.N, conds0_B (grid0.coords t) → cfg0.idle 7 (grid0.coords t) = false) t ⟨h0, h1, h2, h3⟩
/-! ## The kernel body on any staging memrefs: a subtype the run finds -/

/-- One staging buffer of output window 5, through which its contents are stated (`View.read_writes_of_cover`: the
    choice does not matter). -/
abbrev VO0_5 : View sig .tc .vmem S2x256x6144 .bf16 := (Memref.whole cc0_stg5_0 : Memref sig .tc .vmem S2x256x6144 .bf16).view
/-- One staging buffer of output window 6, through which its contents are stated (`View.read_writes_of_cover`: the
    choice does not matter). -/
abbrev VO0_6 : View sig .tc .vmem S160x6144 .f32 := (Memref.whole cc0_stg6_0 : Memref sig .tc .vmem S160x6144 .f32).view
/-- One staging buffer of output window 7, through which its contents are stated (`View.read_writes_of_cover`: the
    choice does not matter). -/
abbrev VO0_7 : View sig .tc .vmem S2x160x256 .f32 := (Memref.whole cc0_stg7_0 : Memref sig .tc .vmem S2x160x256 .f32).view
/-- Each window's current staging memref at point `t`, spelled as the pipeline passes it (`bodyAt0`), and its wholeness. -/
abbrev ms0_0 (t : Fin cfg0.N) : Memref sig .tc .vmem S2x256x6144 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S160x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x2x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x2x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x256x6144 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S160x6144 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x160x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x6144 .bf16 := Memref.whole cc0_scratch0
abbrev scM0_1 : Memref sig .tc .vmem S2x256x256 .bf16 := Memref.whole cc0_scratch1
abbrev scM0_2 : Memref sig .tc .vmem S2x160x256 .bf16 := Memref.whole cc0_scratch2
/-- The scratch `arg9` the kernel carries between points, as a view: what it holds is stated through it. -/
abbrev VS0_0 : View sig .tc .vmem S256x6144 .bf16 := scM0_0.view
/-- The scratch `arg10` the kernel carries between points, as a view: what it holds is stated through it. -/
abbrev VS0_1 : View sig .tc .vmem S2x256x256 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Run

end
-- ==== Proof.RunA.lean ====
/- The kernel body at the first point: the padded weights, the first expert gradients and the first terms of the weight gradient. -/
module

public import proofs.«01_k».proof.Proof.Runs

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body in case A: on whole memrefs it runs to the continuation holding what it only reads as it was and each
    buffer it stores into with the stores written, as pieces (last first) that the run finds. Buffers the case does not
    touch are not mentioned. -/
noncomputable def runA (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole) (hc0 : cond0_0 i) (hc1 : cond0_1 i) (hc2 : ¬cond0_2 i) (hc3 : ¬cond0_3 i)
    (x0 : Vec F S2x256x6144 .fp8e4m3) (x1 : Vec F S2x256 .f32) (x2 : Vec F S160x6144 .bf16) (x3 : Vec F S6x2x256 .i32) (x4 : Vec F S6x2x256 .bf16) :
    Σ' (L6 : List (View.Piece (Elt F) S160x6144 .f32)), Σ' (L7 : List (View.Piece (Elt F) S2x160x256 .f32)), Σ' (LS0 : List (View.Piece (Elt F) S256x6144 .bf16)), Σ' (LS1 : List (View.Piece (Elt F) S2x256x256 .bf16)), { LT2 : List (View.Piece (Elt F) S2x160x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LT2)) -∗ K ⟨⟩))
          ⊢ wp frame (wpE (defs₀ (F := F)) Variants.none c none) E (cc0_router_bwd i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_router_bwd_eq_skeleton]; unfold cc0_router_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%ds0, %fs0, -, Hs0⟩, ⟨%ds1, %fs1, -, Hs1⟩, ⟨%dt2, %ft2, -, Ht2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexists _; iexact H7
    isplitl [Hs0]; · iexists _; iexact Hs0
    isplitl [Hs1]; · iexists _; iexact Hs1
    iexists _; iexact Ht2

end Cert.KernelIdeal.Run

end
-- ==== Proof.RunB.lean ====
/- The kernel body at a middle point: the token gradients of the block before, the expert gradients of this block and its
   terms of the weight gradient. -/
module

public import proofs.«01_k».proof.Proof.RunA

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3000000 in
/-- The body in case B: on whole memrefs it runs to the continuation holding what it only reads as it was and each
    buffer it stores into with the stores written, as pieces (last first) that the run finds. Buffers the case does not
    touch are not mentioned. -/
noncomputable def runB (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole) (hc0 : ¬cond0_0 i) (hc1 : ¬cond0_1 i) (hc2 : cond0_2 i) (hc3 : ¬cond0_3 i)
    (x0 : Vec F S2x256x6144 .fp8e4m3) (x1 : Vec F S2x256 .f32) (x2 : Vec F S160x6144 .bf16) (x3 : Vec F S6x2x256 .i32) (x4 : Vec F S6x2x256 .bf16) (xo6 : Vec F S160x6144 .f32) (xs0 : Vec F S256x6144 .bf16) (xs1 : Vec F S2x256x256 .bf16) :
    Σ' (L5 : List (View.Piece (Elt F) S2x256x6144 .bf16)), Σ' (L6 : List (View.Piece (Elt F) S160x6144 .f32)), Σ' (L7 : List (View.Piece (Elt F) S2x160x256 .f32)), Σ' (LS1 : List (View.Piece (Elt F) S2x256x256 .bf16)), { LT2 : List (View.Piece (Elt F) S2x160x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LT2)) -∗ K ⟨⟩))
          ⊢ wp frame (wpE (defs₀ (F := F)) Variants.none c none) E (cc0_router_bwd i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_router_bwd_eq_skeleton]; unfold cc0_router_bwd_skel
    simp only [k0_part57_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%fs0, %hfs0, Hs0⟩, ⟨%fs1, %hfs1, Hs1⟩, ⟨%dt2, %ft2, -, Ht2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg9.eq_unread hfs0; obtain rfl := harg10.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [Hs0]
    · iexists _; isplitr; · ipureintro; exact harg9.read_unread _
      iexact Hs0
    isplitl [Hs1]; · iexists _; iexact Hs1
    iexists _; iexact Ht2

end Cert.KernelIdeal.Run

end
-- ==== Proof.RunC.lean ====
/- The kernel body at the last point: the token gradients of the last block. -/
module

public import proofs.«01_k».proof.Proof.RunB

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body in case C: on whole memrefs it runs to the continuation holding what it only reads as it was and each
    buffer it stores into with the stores written, as pieces (last first) that the run finds. Buffers the case does not
    touch are not mentioned. -/
noncomputable def runC (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole) (hc0 : ¬cond0_0 i) (hc1 : ¬cond0_1 i) (hc2 : ¬cond0_2 i) (hc3 : cond0_3 i)
    (xs0 : Vec F S256x6144 .bf16) (xs1 : Vec F S2x256x256 .bf16) :
    { L5 : List (View.Piece (Elt F) S2x256x6144 .bf16) //
      ∀ (E : Set ℕ) (K : PUnit → sProp 𝕄),
        iprop((∃ d, owns (c : Thread nD τ) arg6 fullShare d) ∗ owns (c : Thread nD τ) arg9 fullShare xs0 ∗ owns (c : Thread nD τ) arg10 fullShare xs1
            ∗ (iprop((∃ f, arg6.view.loc (c : Thread nD τ) ↦[arg6.view.set]{fullShare} arg6.view.writes (Elt F) f L5) ∗ owns (c : Thread nD τ) arg9 fullShare xs0 ∗ owns (c : Thread nD τ) arg10 fullShare xs1) -∗ K ⟨⟩))
          ⊢ wp frame (wpE (defs₀ (F := F)) Variants.none c none) E (cc0_router_bwd i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_router_bwd_eq_skeleton]; unfold cc0_router_bwd_skel
    simp only [k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns
    iintro ⟨⟨%d5, %f5, -, H5⟩, ⟨%fs0, %hfs0, Hs0⟩, ⟨%fs1, %hfs1, Hs1⟩, Hk⟩
    obtain rfl := harg9.eq_unread hfs0; obtain rfl := harg10.eq_unread hfs1
    sl_exec (disch := first | sl_exact hc0 | sl_exact hc1 | sl_exact hc2 | sl_exact hc3)
    sl_step
    iapply Hk
    isplitl [H5]; · iexists _; iexact H5
    isplitl [Hs0]
    · iexists _; isplitr; · ipureintro; exact harg9.read_unread _
      iexact Hs0
    iexists _; isplitr; · ipureintro; exact harg10.read_unread _
    iexact Hs1

end Cert.KernelIdeal.Run

end
-- ==== Proof.Spec.lean ====
/- The mathematics of one token: the gates of its selected experts and the gradient of its logits, over idealized floats. -/
module

public import Idealize.ShloMosaic.Lib.Pointwise

@[expose] public section

noncomputable section

namespace Cert.Spec

open Idealize.ShloMosaic

/-- One over whether `id` is expert `e`: `x` if so, else `y`. -/
def pick (id : BitVec 32) (e : Fin 160) (x y : EReal) : EReal := Scalar.select (IntOp.cmpi .eq id (BitVec.ofNat 32 e.val)) x y

/-- The logit of the expert `id`, as the sum over all experts of the logits masked to it. -/
def sel (l : Fin 160 → EReal) (id : BitVec 32) : EReal := ∑ e : Fin 160, pick id e (l e) 0

/-- The largest of six selected logits. -/
def top (s : Fin 6 → EReal) : EReal := max (max (max (max (max (s 0) (s 1)) (s 2)) (s 3)) (s 4)) (s 5)

/-- The softmax's numerator. -/
def num (s : Fin 6 → EReal) (k : Fin 6) : EReal := Ideal.exp (s k - top s)

/-- The softmax's denominator. -/
def den (s : Fin 6 → EReal) : EReal := num s 0 + num s 1 + num s 2 + num s 3 + num s 4 + num s 5

/-- The gate of the `k`-th selected expert. -/
def gate (s : Fin 6 → EReal) (k : Fin 6) : EReal := Ideal.div (num s k) (den s)

/-- The gates' product with the incoming gradients. -/
def dot (s d : Fin 6 → EReal) : EReal :=
  gate s 0 * d 0 + gate s 1 * d 1 + gate s 2 * d 2 + gate s 3 * d 3 + gate s 4 * d 4 + gate s 5 * d 5

/-- The gradient of the `k`-th selected logit. -/
def dsel (s d : Fin 6 → EReal) (k : Fin 6) : EReal := gate s k * (d k - dot s d)

/-- Six values written one after the other at the experts `id`, over zeros. -/
def put (id : Fin 6 → BitVec 32) (v : Fin 6 → EReal) (e : Fin 160) : EReal :=
  pick (id 5) e (v 5) (pick (id 4) e (v 4) (pick (id 3) e (v 3) (pick (id 2) e (v 2) (pick (id 1) e (v 1) (pick (id 0) e (v 0) 0)))))

/-- The gradient of a token's logits `l` for its experts `id` and the incoming gradients `d` of its gates. -/
def dlog (l : Fin 160 → EReal) (id : Fin 6 → BitVec 32) (d : Fin 6 → EReal) (e : Fin 160) : EReal :=
  put id (dsel (fun k => sel l (id k)) d) e

end Cert.Spec

end
-- ==== Proof.DLog.lean ====
/- What the body makes of one batch row of a token block, over idealized floats. -/
module

public import proofs.«01_k».proof.Proof.RunC
public import proofs.«01_k».proof.Proof.Spec

@[expose] public section

set_option maxRecDepth 16384

noncomputable section

namespace Cert.KernelIdeal.Run

open Cert.KernelIdeal.Gen
open Idealize.ShloMosaic

/-- The gradient of the logits of one batch row, from the weights, the row's tokens and scales, and the six experts and
    incoming gradients of each token: the body's operations composed. -/
def dlogVec (w : Vec Ideal S160x6144 .bf16) (x : Vec Ideal S1x256x6144 .fp8e4m3) (s : Vec Ideal S1x256 .f32)
    (i0 i1 i2 i3 i4 i5 : Vec Ideal S1x1x256 .i32) (d0 d1 d2 d3 d4 d5 : Vec Ideal S1x1x256 .bf16) : FVec Ideal S160x256 .f32 :=
  have l := k0_pay10 w x s
  have z : Ideal .f32 := Scalar.ofBits .f32 0x00000000#32
  have h0 := k0_pay11 i0
  have h1 := k0_pay12 i1
  have h2 := k0_pay13 i2
  have h3 := k0_pay14 i3
  have h4 := k0_pay15 i4
  have h5 := k0_pay16 i5
  have p3 := k0_pay27 l h0 h1 h2 h3 h4 h5 z
  have p4 := k0_pay28 l h0 h1 h2 h3 h4 h5 z
  have p5 := k0_pay29 l h0 h1 h2 h3 h4 h5 z
  have tot := k0_pay30 l h0 h1 h2 h3 h4 h5 z
  have g0 := k0_pay31 l h0 h1 h2 h3 h4 h5 z
  have g1 := k0_pay32 l h0 h1 h2 h3 h4 h5 z
  have g2 := k0_pay33 l h0 h1 h2 h3 h4 h5 z
  k0_pay46 h1 h2 h3 h4 h5 g2 (k0_pay34 p3 tot) (k0_pay35 p4 tot) (k0_pay36 p5 tot)
    (k0_pay39 d2) (k0_pay40 d3) (k0_pay41 d4) (k0_pay42 d5)
    (k0_pay43 p3 p4 p5 tot g0 g1 g2 d0 d1 d2 d3 d4 d5)
    (k0_pay44 h0 p3 p4 p5 tot g0 g1 g2 d0 d1 d2 d3 d4 d5)
    (k0_pay45 p3 p4 p5 tot g0 g1 g2 d0 d1 d2 d3 d4 d5)

theorem logit_apply (w : Vec Ideal S160x6144 .bf16) (x : Vec Ideal S1x256x6144 .fp8e4m3) (s : Vec Ideal S1x256 .f32) (e : Fin 160) (t : Fin 256) :
    k0_pay10 w x s (ix2 e t) = (∑ d : Fin 6144, (w (ix2 e d) : EReal) * (x (ix3 0 t d) : EReal)) * (s (ix2 0 t) : EReal) := by
  pointwise [k0_pay10]

theorem sel_apply (l : FVec Ideal S160x256 .f32) (i : Vec Ideal S1x1x256 .i32) (t : Fin 256) :
    k0_pay18 l (k0_pay11 (F := Ideal) i) (ix2 0 t) = Spec.sel (fun e => l (ix2 e t)) (i (ix3 0 0 t)) := by
  pointwise [k0_pay18, k0_pay11]
  rfl

theorem dlogVec_apply (w : Vec Ideal S160x6144 .bf16) (x : Vec Ideal S1x256x6144 .fp8e4m3) (s : Vec Ideal S1x256 .f32)
    (i0 i1 i2 i3 i4 i5 : Vec Ideal S1x1x256 .i32) (d0 d1 d2 d3 d4 d5 : Vec Ideal S1x1x256 .bf16) (e : Fin 160) (t : Fin 256) :
    dlogVec w x s i0 i1 i2 i3 i4 i5 d0 d1 d2 d3 d4 d5 (ix2 e t)
      = Spec.dlog (fun e => (∑ d : Fin 6144, (w (ix2 e d) : EReal) * (x (ix3 0 t d) : EReal)) * (s (ix2 0 t) : EReal))
          ![i0 (ix3 0 0 t), i1 (ix3 0 0 t), i2 (ix3 0 0 t), i3 (ix3 0 0 t), i4 (ix3 0 0 t), i5 (ix3 0 0 t)]
          ![d0 (ix3 0 0 t), d1 (ix3 0 0 t), d2 (ix3 0 0 t), d3 (ix3 0 0 t), d4 (ix3 0 0 t), d5 (ix3 0 0 t)] e := by
  have hl : (fun e => k0_pay10 w x s (ix2 e t)) = fun e => (∑ d : Fin 6144, (w (ix2 e d) : EReal) * (x (ix3 0 t d) : EReal)) * (s (ix2 0 t) : EReal) :=
    funext fun e => logit_apply w x s e t
  rw [← hl]
  have hs : ∀ i, k0_pay18 (k0_pay10 w x s) (k0_pay11 (F := Ideal) i) (ix2 0 t) = Spec.sel (fun e => k0_pay10 w x s (ix2 e t)) (i (ix3 0 0 t)) :=
    fun i => sel_apply _ i t
  have h0 : k0_pay17 (k0_pay10 w x s) (k0_pay11 (F := Ideal) i0) (Scalar.ofBits .f32 0x00000000#32) (ix2 0 t) = _ := hs i0
  have h1 : k0_pay18 (k0_pay10 w x s) (k0_pay12 (F := Ideal) i1) (ix2 0 t) = _ := hs i1
  have h2 : k0_pay19 (k0_pay10 w x s) (k0_pay13 (F := Ideal) i2) (ix2 0 t) = _ := hs i2
  have h3 : k0_pay20 (k0_pay10 w x s) (k0_pay14 (F := Ideal) i3) (ix2 0 t) = _ := hs i3
  have h4 : k0_pay21 (k0_pay10 w x s) (k0_pay15 (F := Ideal) i4) (ix2 0 t) = _ := hs i4
  have h5 : k0_pay22 (k0_pay10 w x s) (k0_pay16 (F := Ideal) i5) (ix2 0 t) = _ := hs i5
  clear hs hl
  unfold dlogVec
  generalize k0_pay10 w x s = l at *
  generalize hz : (Scalar.ofBits .f32 0x00000000#32 : Ideal .f32) = z at h0 ⊢
  pointwise [k0_pay46, k0_pay45, k0_pay44, k0_pay43, k0_pay42, k0_pay41, k0_pay40, k0_pay39, k0_pay38, k0_pay37, k0_pay36, k0_pay35,
    k0_pay34, k0_pay33, k0_pay32, k0_pay31, k0_pay30, k0_pay29, k0_pay28, k0_pay27, k0_pay26, k0_pay25, k0_pay24, k0_pay23]
  simp only [h0, h1, h2, h3, h4, h5]
  pointwise [k0_pay11, k0_pay12, k0_pay13, k0_pay14, k0_pay15, k0_pay16]
  rfl

end Cert.KernelIdeal.Run

end
-- ==== Proof.Tiles.lean ====
/- What the body's tiles are as functions of the blocks they are made from, over idealized floats. -/
module

public import proofs.«01_k».proof.Proof.RunC
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Run

open Cert.KernelIdeal.Gen
open Idealize.ShloMosaic

/-- What one grid point stores for `dx`: the padded transposed `dlogits` times the padded weights. -/
def dxF (w : Vec Ideal S256x6144 .bf16) (dl : Vec Ideal S2x256x256 .bf16) : Vec Ideal S2x256x6144 .bf16 :=
  fun y => ∑ e : Fin 256, (dl (ix3 (y 0) (y 1) e) : EReal) * (w (ix2 e (y 2)) : EReal)

theorem dxPay_apply (v : Vec Ideal S1x256x256 .bf16) (w : Vec Ideal S256x256 .bf16) (x : S1x256x256.Idx) :
    k0_pay309 v w x = ∑ e : Fin 256, (v (ix3 0 (x 1) e) : EReal) * (w (ix2 e (x 2)) : EReal) := by
  idx_vars x
  pointwise [k0_pay309]

/-- A tile of `dx` is its part of `dxF`. -/
theorem dx_tile {arg9 : Memref sig .tc .vmem S256x6144 .bf16} (harg9 : arg9.IsWhole)
    {arg10 : Memref sig .tc .vmem S2x256x256 .bf16} (harg10 : arg10.IsWhole)
    (xs0 : Vec Ideal S256x6144 .bf16) (xs1 : Vec Ideal S2x256x256 .bf16) (b j : Nat)
    (inb) (inb1) (inb2) (w : Vec Ideal S1x256x256 .bf16)
    (hw : w = k0_pay309 (arg10.view.readAt (Elt Ideal) (Rect.unit (s := S2x256x256) ![b, 0, 0] S1x256x256.size inb1).toLoadRect (harg10.unread xs1))
      (arg9.view.readAt (Elt Ideal) (Rect.unit (s := S256x6144) ![0, j] S256x256.size inb2).toLoadRect (harg9.unread xs0))) (x : S1x256x256.Idx) :
    w x = dxF xs0 xs1 ((Rect.unit (s := S2x256x6144) ![b, 0, j] S1x256x256.size inb).emb x) := by
  subst hw
  rw [dxPay_apply]
  simp only [View.readAt_eq_ld, Memref.IsWhole.read_unread]
  unfold dxF
  refine Finset.sum_congr rfl fun e _ => ?_
  refine Ideal.mul_congr ?_ ?_
  · refine View.ld_unit_apply_of _ _ _ _ _ _ fun a => ?_
    fin_cases a <;> simp [ValueKit.rect_emb_unit_val, ix3]
  · refine View.ld_unit_apply_of _ _ _ _ _ _ fun a => ?_
    fin_cases a <;> simp [ValueKit.rect_emb_unit_val, ix2]

end Cert.KernelIdeal.Run

end
-- ==== Proof.Rows.lean ====
/- The logits' gradient of one batch row as the body reads it from its blocks, and the pieces made from it. -/
module

public import proofs.«01_k».proof.Proof.DLog
public import proofs.«01_k».proof.Proof.Tiles

@[expose] public section

set_option maxRecDepth 16384

noncomputable section

namespace Cert.KernelIdeal.Run

open Cert.KernelIdeal.Gen
open Idealize.ShloMosaic

/-- What one grid point stores for `dlogits`: expert by token, in each of the two batch rows. -/
def dlogF (x0 : Vec Ideal S2x256x6144 .fp8e4m3) (x1 : Vec Ideal S2x256 .f32) (x2 : Vec Ideal S160x6144 .bf16)
    (x3 : Vec Ideal S6x2x256 .i32) (x4 : Vec Ideal S6x2x256 .bf16) : Vec Ideal S2x160x256 .f32 :=
  fun y => Spec.dlog (fun e => (∑ d : Fin 6144, (x2 (ix2 e d) : EReal) * (x0 (ix3 (y 0) (y 2) d) : EReal)) * (x1 (ix2 (y 0) (y 2)) : EReal))
    (fun k => x3 (ix3 k (y 0) (y 2))) (fun k => x4 (ix3 k (y 0) (y 2))) (y 1)

/-- What one grid point keeps of `dlogits` for its weight gradient: each token's scaled. -/
def dlsF (x1 : Vec Ideal S2x256 .f32) (dl : Vec Ideal S2x160x256 .f32) : Vec Ideal S2x160x256 .bf16 :=
  fun y => (dl y : EReal) * (x1 (ix2 (y 0) (y 2)) : EReal)

/-- What one grid point keeps of `dlogits` for the next one: token by expert, padded by zeros. -/
def dlpF (dl : Vec Ideal S2x160x256 .f32) : Vec Ideal S2x256x256 .bf16 :=
  fun y => if h : (y 2).val < 160 then dl (ix3 (y 0) ⟨(y 2).val, h⟩ (y 1)) else (0 : EReal)

section

variable {arg1 : Memref sig .tc .vmem S2x256x6144 .fp8e4m3} (harg1 : arg1.IsWhole)
  {arg2 : Memref sig .tc .vmem S2x256 .f32} (harg2 : arg2.IsWhole)
  {arg3 : Memref sig .tc .vmem S160x6144 .bf16} (harg3 : arg3.IsWhole)
  {arg4 : Memref sig .tc .vmem S6x2x256 .i32} (harg4 : arg4.IsWhole)
  {arg5 : Memref sig .tc .vmem S6x2x256 .bf16} (harg5 : arg5.IsWhole)
  (x0 : Vec Ideal S2x256x6144 .fp8e4m3) (x1 : Vec Ideal S2x256 .f32) (x2 : Vec Ideal S160x6144 .bf16)
  (x3 : Vec Ideal S6x2x256 .i32) (x4 : Vec Ideal S6x2x256 .bf16)

/-- Batch row `b` of the experts or of the incoming gradients for the `k`-th selected expert lies in its block. -/
theorem inbK (k b : ℕ) (hk : k < 6) (hb : b < 2) : ∀ a : Fin S6x2x256.rank, ![k, b, 0] a + S1x1x256.size a ≤ S6x2x256.size a := fun a => by
  fin_cases a
  · show k + 1 ≤ 6; omega
  · show b + 1 ≤ 2; omega
  · show 0 + 256 ≤ 256; omega

/-- Batch row `b` of the tokens lies in its block. -/
theorem inbX (b : ℕ) (hb : b < 2) : ∀ a : Fin S2x256x6144.rank, ![b, 0, 0] a + S1x256x6144.size a ≤ S2x256x6144.size a := fun a => by
  fin_cases a
  · show b + 1 ≤ 2; omega
  · show 0 + 256 ≤ 256; omega
  · show 0 + 6144 ≤ 6144; omega

/-- Batch row `b` of the scales lies in its block. -/
theorem inbS (b : ℕ) (hb : b < 2) : ∀ a : Fin S2x256.rank, ![b, 0] a + S1x256.size a ≤ S2x256.size a := fun a => by
  fin_cases a
  · show b + 1 ≤ 2; omega
  · show 0 + 256 ≤ 256; omega

/-- Batch row `b` of the experts or of the incoming gradients for the `k`-th selected expert, as the body loads it. -/
abbrev rowI (k b : ℕ) (hk : k < 6) (hb : b < 2) : Vec Ideal S1x1x256 .i32 :=
  arg4.view.readAt (Elt Ideal) (Rect.unit (s := S6x2x256) ![k, b, 0] S1x1x256.size (inbK k b hk hb)).toLoadRect (harg4.unread x3)
@[inherit_doc rowI]
abbrev rowD (k b : ℕ) (hk : k < 6) (hb : b < 2) : Vec Ideal S1x1x256 .bf16 :=
  arg5.view.readAt (Elt Ideal) (Rect.unit (s := S6x2x256) ![k, b, 0] S1x1x256.size (inbK k b hk hb)).toLoadRect (harg5.unread x4)

/-- Batch row `b` of the scales, as the body loads it. -/
abbrev rowS (b : ℕ) (hb : b < 2) : Vec Ideal S1x256 .f32 :=
  arg2.view.readAt (Elt Ideal) (Rect.unit (s := S2x256) ![b, 0] S1x256.size (inbS b hb)).toLoadRect (harg2.unread x1)

/-- The logits' gradient of batch row `b`, from the loads of the blocks. -/
def rowVec (b : ℕ) (hb : b < 2) : FVec Ideal S160x256 .f32 :=
  dlogVec (arg3.view.readAt (Elt Ideal) (Rect.unit (s := S160x6144) ![0, 0] S160x6144.size (by decide)).toLoadRect (harg3.unread x2))
    (arg1.view.readAt (Elt Ideal) (Rect.unit (s := S2x256x6144) ![b, 0, 0] S1x256x6144.size (inbX b hb)).toLoadRect (harg1.unread x0))
    (rowS harg2 x1 b hb)
    (rowI harg4 x3 0 b (by decide) hb) (rowI harg4 x3 1 b (by decide) hb) (rowI harg4 x3 2 b (by decide) hb)
    (rowI harg4 x3 3 b (by decide) hb) (rowI harg4 x3 4 b (by decide) hb) (rowI harg4 x3 5 b (by decide) hb)
    (rowD harg5 x4 0 b (by decide) hb) (rowD harg5 x4 1 b (by decide) hb) (rowD harg5 x4 2 b (by decide) hb)
    (rowD harg5 x4 3 b (by decide) hb) (rowD harg5 x4 4 b (by decide) hb) (rowD harg5 x4 5 b (by decide) hb)

theorem rowI_apply (k b : ℕ) (hk : k < 6) (hb : b < 2) (t : Fin 256) :
    rowI harg4 x3 k b hk hb (ix3 0 0 t) = x3 (ix3 ⟨k, hk⟩ ⟨b, hb⟩ t) := by
  simp only [rowI, View.readAt_eq_ld, Memref.IsWhole.read_unread]
  refine View.ld_unit_apply_of _ _ _ _ _ _ fun a => ?_
  fin_cases a <;> simp [ix3]

theorem rowD_apply (k b : ℕ) (hk : k < 6) (hb : b < 2) (t : Fin 256) :
    rowD harg5 x4 k b hk hb (ix3 0 0 t) = x4 (ix3 ⟨k, hk⟩ ⟨b, hb⟩ t) := by
  simp only [rowD, View.readAt_eq_ld, Memref.IsWhole.read_unread]
  refine View.ld_unit_apply_of _ _ _ _ _ _ fun a => ?_
  fin_cases a <;> simp [ix3]

theorem rowS_apply (b : ℕ) (hb : b < 2) (t : Fin 256) : rowS harg2 x1 b hb (ix2 0 t) = x1 (ix2 ⟨b, hb⟩ t) := by
  simp only [rowS, View.readAt_eq_ld, Memref.IsWhole.read_unread]
  refine View.ld_unit_apply_of _ _ _ _ _ _ fun a => ?_
  fin_cases a <;> simp [ix2]

theorem rowVec_apply (b : ℕ) (hb : b < 2) (e : Fin 160) (t : Fin 256) :
    rowVec harg1 harg2 harg3 harg4 harg5 x0 x1 x2 x3 x4 b hb (ix2 e t) = dlogF x0 x1 x2 x3 x4 (ix3 ⟨b, hb⟩ e t) := by
  rw [rowVec, dlogVec_apply]
  simp only [rowI_apply, rowD_apply, rowS_apply, View.readAt_eq_ld, Memref.IsWhole.read_unread]
  have hw : ∀ (e : Fin 160) (d : Fin 6144), View.ld x2 (Rect.unit (s := S160x6144) ![0, 0] S160x6144.size (by decide)) (ix2 e d) = x2 (ix2 e d) := fun e d => by
    refine View.ld_unit_apply_of _ _ _ _ _ _ fun a => ?_
    fin_cases a <;> simp [ix2]
  have hx : ∀ (d : Fin 6144), View.ld x0 (Rect.unit (s := S2x256x6144) ![b, 0, 0] S1x256x6144.size (inbX b hb)) (ix3 0 t d) = x0 (ix3 ⟨b, hb⟩ t d) := fun d => by
    refine View.ld_unit_apply_of _ _ _ _ _ _ fun a => ?_
    fin_cases a <;> simp [ix3]
  simp only [hw, hx]
  unfold dlogF
  congr 1
  · funext k; fin_cases k <;> rfl
  · funext k; fin_cases k <;> rfl

/-- Where a batch row of an expert-by-token block lies. -/
theorem emb_row (b : ℕ) (hb : b < 2) (inb) (x : S1x160x256.Idx) :
    (Rect.unit (s := S2x160x256) ![b, 0, 0] S1x160x256.size inb).emb x = ix3 ⟨b, hb⟩ (x 1) (x 2) := by
  idx_vars x
  funext a; apply Fin.ext
  fin_cases a <;> simp [ValueKit.rect_emb_unit_val, ix3]

/-- Where a batch row of a token-by-expert block lies. -/
theorem emb_rowT (b : ℕ) (hb : b < 2) (inb) (x : S1x256x256.Idx) :
    (Rect.unit (s := S2x256x256) ![b, 0, 0] S1x256x256.size inb).emb x = ix3 ⟨b, hb⟩ (x 1) (x 2) := by
  idx_vars x
  funext a; apply Fin.ext
  fin_cases a <;> simp [ValueKit.rect_emb_unit_val, ix3]

/-- A stored batch row of `dlogits` is its part of `dlogF`. -/
theorem dlog_tile (b : ℕ) (hb : b < 2) (inb) (w : Vec Ideal S1x160x256 .f32)
    (hw : w = shapeCast S1x160x256 (rowVec harg1 harg2 harg3 harg4 harg5 x0 x1 x2 x3 x4 b hb) shapeCasts_S160x256_S1x160x256) (x : S1x160x256.Idx) :
    w x = dlogF x0 x1 x2 x3 x4 ((Rect.unit (s := S2x160x256) ![b, 0, 0] S1x160x256.size inb).emb x) := by
  subst hw
  rw [emb_row b hb]
  idx_vars x
  pointwise
  rw [rowVec_apply]

/-- A kept batch row of scaled `dlogits` is its part of `dlsF`. -/
theorem dls_tile (b : ℕ) (hb : b < 2) (inb) (w : Vec Ideal S1x160x256 .bf16)
    (hw : w = shapeCast S1x160x256 (mulf (truncf .bf16 (rowVec harg1 harg2 harg3 harg4 harg5 x0 x1 x2 x3 x4 b hb) bitsLt_bf16_f32)
      (broadcastTo S160x256 (truncf .bf16 (rowS harg2 x1 b hb) bitsLt_bf16_f32) broadcasts_S1x256_S160x256)) shapeCasts_S160x256_S1x160x256) (x : S1x160x256.Idx) :
    w x = dlsF x1 (dlogF x0 x1 x2 x3 x4) ((Rect.unit (s := S2x160x256) ![b, 0, 0] S1x160x256.size inb).emb x) := by
  subst hw
  rw [emb_row b hb]
  generalize hr : rowVec harg1 harg2 harg3 harg4 harg5 x0 x1 x2 x3 x4 b hb = r
  generalize hs : rowS harg2 x1 b hb = s
  idx_vars x
  pointwise [dlsF]
  rw [← hr, ← hs, rowVec_apply, rowS_apply]

/-- A kept batch row of padded `dlogits` is its part of `dlpF`. -/
theorem dlp_tile (b : ℕ) (hb : b < 2) (inb) (w : Vec Ideal S1x256x256 .bf16)
    (hw : w = k0_pay5 (rowVec harg1 harg2 harg3 harg4 harg5 x0 x1 x2 x3 x4 b hb)) (x : S1x256x256.Idx) :
    w x = dlpF (dlogF x0 x1 x2 x3 x4) ((Rect.unit (s := S2x256x256) ![b, 0, 0] S1x256x256.size inb).emb x) := by
  subst hw
  rw [emb_rowT b hb]
  generalize hr : rowVec harg1 harg2 harg3 harg4 harg5 x0 x1 x2 x3 x4 b hb = r
  idx_vars x
  pointwise [k0_pay5, dlpF]
  simp only [← hr, rowVec_apply]

end

end Cert.KernelIdeal.Run

end
-- ==== Proof.Dw.lean ====
/- The pieces of the weight gradient's accumulator. -/
module

public import proofs.«01_k».proof.Proof.Rows

@[expose] public section

set_option maxRecDepth 16384

noncomputable section

namespace Cert.KernelIdeal.Run

open Cert.KernelIdeal.Gen
open Idealize.ShloMosaic

/-- What one grid point adds to the weight gradient. -/
def dwAdd (x0 : Vec Ideal S2x256x6144 .fp8e4m3) (dls : Vec Ideal S2x160x256 .bf16) (e : Fin 160) (d : Fin 6144) : EReal :=
  (∑ t : Fin 256, (dls (ix3 0 e t) : EReal) * (x0 (ix3 0 t d) : EReal)) + ∑ t : Fin 256, (dls (ix3 1 e t) : EReal) * (x0 (ix3 1 t d) : EReal)

/-- The weight gradient's accumulator after a grid point, from the one before. -/
def dwF (prev : Vec Ideal S160x6144 .f32) (x0 : Vec Ideal S2x256x6144 .fp8e4m3) (dls : Vec Ideal S2x160x256 .bf16) : Vec Ideal S160x6144 .f32 :=
  fun y => (prev y : EReal) + dwAdd x0 dls (y 0) (y 1)

theorem dwPay_apply (d0 d1 : Vec Ideal S1x160x256 .bf16) (t0 t1 : Vec Ideal S1x256x256 .fp8e4m3) (p : Vec Ideal S160x256 .f32) (x : S160x256.Idx) :
    k0_pay90 d0 t0 d1 t1 p x = (p x : EReal) + ((∑ t : Fin 256, (d0 (ix3 0 (x 0) t) : EReal) * (t0 (ix3 0 t (x 1)) : EReal))
      + ∑ t : Fin 256, (d1 (ix3 0 (x 0) t) : EReal) * (t1 (ix3 0 t (x 1)) : EReal)) := by
  idx_vars x
  pointwise [k0_pay90]

section

variable {arg1 : Memref sig .tc .vmem S2x256x6144 .fp8e4m3} (harg1 : arg1.IsWhole)
  {arg7 : Memref sig .tc .vmem S160x6144 .f32} (harg7 : arg7.IsWhole)
  {arg11 : Memref sig .tc .vmem S2x160x256 .bf16}
  (x0 : Vec Ideal S2x256x6144 .fp8e4m3) (xo6 : Vec Ideal S160x6144 .f32)

/-- A tile of what a grid point adds, where the tile starts at column `j`. -/
theorem dw_tile (prev : Vec Ideal S160x6144 .f32) {L : List (View.Piece (Elt Ideal) S2x160x256 .bf16)} {dls : Vec Ideal S2x160x256 .bf16}
    (hL : View.canon L = dls) (j : ℕ) (inb) (inb0) (inb1) (inb2) (inb3) (w : Vec Ideal S160x256 .f32) (p : Vec Ideal S160x256 .f32)
    (hw : w = k0_pay90 (arg11.view.readCov L (Rect.unit (s := S2x160x256) ![0, 0, 0] S1x160x256.size inb0).toLoadRect)
      (arg1.view.readAt (Elt Ideal) (Rect.unit (s := S2x256x6144) ![0, 0, j] S1x256x256.size inb1).toLoadRect (harg1.unread x0))
      (arg11.view.readCov L (Rect.unit (s := S2x160x256) ![1, 0, 0] S1x160x256.size inb2).toLoadRect)
      (arg1.view.readAt (Elt Ideal) (Rect.unit (s := S2x256x6144) ![1, 0, j] S1x256x256.size inb3).toLoadRect (harg1.unread x0)) p)
    (hp : ∀ x, p x = prev ((Rect.unit (s := S160x6144) ![0, j] S160x256.size inb).emb x)) (x : S160x256.Idx) :
    w x = dwF prev x0 dls ((Rect.unit (s := S160x6144) ![0, j] S160x256.size inb).emb x) := by
  subst hw
  rw [dwPay_apply, hp]
  simp only [View.readAt_eq_ld, Memref.IsWhole.read_unread, View.readCov_eq_canon', hL]
  have hd : ∀ (b : ℕ) (hb : b < 2) (inb) (e : Fin 160) (t : Fin 256),
      dls ((Rect.unit (s := S2x160x256) ![b, 0, 0] S1x160x256.size inb).toLoadRect.idx (ix3 0 e t)) = dls (ix3 ⟨b, hb⟩ e t) := fun b hb inb e t =>
    congrArg dls (emb_row b hb inb (ix3 0 e t))
  have hx : ∀ (b : ℕ) (hb : b < 2) (inb') (t : Fin 256), View.ld x0 (Rect.unit (s := S2x256x6144) ![b, 0, j] S1x256x256.size inb') (ix3 0 t (x 1))
      = x0 (ix3 ⟨b, hb⟩ t ((Rect.unit (s := S160x6144) ![0, j] S160x256.size inb).emb x 1)) := fun b hb inb' t => by
    refine View.ld_unit_apply_of _ _ _ _ _ _ fun a => ?_
    fin_cases a <;> simp [ValueKit.rect_emb_unit_val, ix3]
  have he : (Rect.unit (s := S160x6144) ![0, j] S160x256.size inb).emb x 0 = x 0 := by
    apply Fin.ext; simp [ValueKit.rect_emb_unit_val]
  unfold dwF dwAdd
  rw [he]
  exact Ideal.add_congr rfl (Ideal.add_congr
    (Finset.sum_congr rfl fun t _ => Ideal.mul_congr (hd 0 (by decide) inb0 (x 0) t) (hx 0 (by decide) inb1 t))
    (Finset.sum_congr rfl fun t _ => Ideal.mul_congr (hd 1 (by decide) inb2 (x 0) t) (hx 1 (by decide) inb3 t)))

/-- A tile of the accumulator before the grid point, as the body loads it. -/
theorem prev_tile (j : ℕ) (inb) (x : S160x256.Idx) :
    arg7.view.readAt (Elt Ideal) (Rect.unit (s := S160x6144) ![0, j] S160x256.size inb).toLoadRect (harg7.unread xo6) x
      = xo6 ((Rect.unit (s := S160x6144) ![0, j] S160x256.size inb).emb x) := by
  rw [View.readAt_eq_ld, Memref.IsWhole.read_unread]; rfl

/-- The accumulator while the first grid point adds its tiles over the zeros it stored: the columns before `n` have what is
    added, the others zero. -/
def AddedTo (G : Vec Ideal S160x6144 .f32) (n : ℕ) (L : List (View.Piece (Elt Ideal) S160x6144 .f32)) : Prop :=
  ∀ y : S160x6144.Idx, View.canon L y = if (y 1).val < n then G y else (0 : EReal)

/-- One more tile. -/
theorem AddedTo.step {dls : Vec Ideal S2x160x256 .bf16} {L' : List (View.Piece (Elt Ideal) S160x6144 .f32)} {j : ℕ}
    (h : AddedTo (dwF (fun _ => (0 : EReal)) x0 dls) j L') {L : List (View.Piece (Elt Ideal) S2x160x256 .bf16)}
    (hL : View.canon L = dls) (inb) (inb0) (inb1) (inb2) (inb3) (inb4) (w : Vec Ideal S160x256 .f32)
    (hw : w = k0_pay90 (arg11.view.readCov L (Rect.unit (s := S2x160x256) ![0, 0, 0] S1x160x256.size inb0).toLoadRect)
      (arg1.view.readAt (Elt Ideal) (Rect.unit (s := S2x256x6144) ![0, 0, j] S1x256x256.size inb1).toLoadRect (harg1.unread x0))
      (arg11.view.readCov L (Rect.unit (s := S2x160x256) ![1, 0, 0] S1x160x256.size inb2).toLoadRect)
      (arg1.view.readAt (Elt Ideal) (Rect.unit (s := S2x256x6144) ![1, 0, j] S1x256x256.size inb3).toLoadRect (harg1.unread x0))
      (arg7.view.readCov L' (Rect.unit (s := S160x6144) ![0, j] S160x256.size inb4).toLoadRect)) :
    AddedTo (dwF (fun _ => (0 : EReal)) x0 dls) (j + 256) (⟨Rect.unit (s := S160x6144) ![0, j] S160x256.size inb, w⟩ :: L') := by
  have hj : j + 256 ≤ 6144 := inb 1
  intro y
  by_cases hy : j ≤ (y 1).val ∧ (y 1).val < j + 256
  · obtain ⟨x, rfl⟩ : ∃ x : S160x256.Idx, (Rect.unit (s := S160x6144) ![0, j] S160x256.size inb).emb x = y := by
      refine ⟨ix2 (y 0) ⟨(y 1).val - j, by omega⟩, ?_⟩
      funext a; apply Fin.ext
      fin_cases a
      · simp [ValueKit.rect_emb_unit_val, ix2]
      · simp [ValueKit.rect_emb_unit_val, ix2]; omega
    rw [View.canon_cons_emb, if_pos hy.2]
    refine dw_tile harg1 x0 _ hL j inb inb0 inb1 inb2 inb3 w _ hw (fun x => ?_) x
    rw [View.readCov_eq_canon']
    refine (h _).trans (if_neg ?_)
    rw [Rect.idx_unit_val]
    simp
  · rw [View.canon_cons_of_not_mem, h y]
    · refine if_congr ?_ rfl rfl
      omega
    · intro hm
      rw [Rect.mem_set_unit] at hm
      exact hy (hm 1)

end

end Cert.KernelIdeal.Run

end
-- ==== Proof.Cases.lean ====
/- What the three cases of the kernel body store, as functions of the blocks they read. -/
module

public import proofs.«01_k».proof.Proof.Dw

@[expose] public section

set_option maxRecDepth 16384

noncomputable section

namespace Cert.KernelIdeal.Run

open Cert.KernelIdeal.Gen
open Idealize.ShloMosaic

/-- What the first grid point keeps of the weights: padded by zeros. -/
def wpadF (x2 : Vec Ideal S160x6144 .bf16) : Vec Ideal S256x6144 .bf16 :=
  fun y => if h : (y 0).val < 160 then x2 (ix2 ⟨(y 0).val, h⟩ (y 1)) else (0 : EReal)

theorem wpad_zero_tile (x2 : Vec Ideal S160x6144 .bf16) (inb) (x : S96x6144.Idx) :
    k0_pay2 (F := Ideal) x = wpadF x2 ((Rect.unit (s := S256x6144) ![160, 0] S96x6144.size inb).emb x) := by
  unfold wpadF
  rw [dif_neg (by rw [ValueKit.rect_emb_unit_val]; simp)]
  idx_vars x
  pointwise [k0_pay2]

theorem wpad_tile {arg3 : Memref sig .tc .vmem S160x6144 .bf16} (harg3 : arg3.IsWhole) (x2 : Vec Ideal S160x6144 .bf16) (inb) (inb') (x : S160x6144.Idx) :
    k0_pay1 (arg3.view.readAt (Elt Ideal) (Rect.unit (s := S160x6144) ![0, 0] S160x6144.size inb').toLoadRect (harg3.unread x2)) x
      = wpadF x2 ((Rect.unit (s := S256x6144) ![0, 0] S160x6144.size inb).emb x) := by
  have h0 : ((Rect.unit (s := S256x6144) ![0, 0] S160x6144.size inb).emb x 0).val = (x 0).val := by rw [ValueKit.rect_emb_unit_val]; simp
  have h1 : ((Rect.unit (s := S256x6144) ![0, 0] S160x6144.size inb).emb x 1).val = (x 1).val := by rw [ValueKit.rect_emb_unit_val]; simp
  unfold wpadF
  rw [dif_pos (by rw [h0]; exact (x 0).isLt)]
  generalize hr : arg3.view.readAt (Elt Ideal) (Rect.unit (s := S160x6144) ![0, 0] S160x6144.size inb').toLoadRect (harg3.unread x2) = r
  have e : k0_pay1 r x = r x := by
    idx_vars x
    pointwise [k0_pay1]
  rw [e, ← hr, View.readAt_eq_ld, Memref.IsWhole.read_unread]
  refine View.ld_unit_apply_of _ _ _ _ _ _ fun a => ?_
  fin_cases a
  · simp [ix2, h0]
  · simp [ix2, h1]

theorem added_zero (inb) (G) : AddedTo G 0 [⟨Rect.unit (s := S160x6144) ![0, 0] S160x6144.size inb, k0_pay3 (F := Ideal)⟩] := by
  intro y
  rw [View.canon_cons_unit_zero (by funext a; fin_cases a <;> rfl) inb, if_neg (Nat.not_lt_zero _)]
  idx_vars y
  pointwise [k0_pay3]

theorem coverA_dlog (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : cond0_0 i) (hc1 : cond0_1 i) (hc2 : ¬cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) :
    ∀ y, ∃ p ∈ (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4).2.1, y ∈ p.1.set := fun y =>
  View.cover_of_tiledL (s := S2x160x256) _ S1x160x256.size (by sl_kernel_rfl) y

/-- What case A stores for `dlogits`. -/
theorem canonA_dlog (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : cond0_0 i) (hc1 : cond0_1 i) (hc2 : ¬cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) :
    View.canon (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4).2.1 = (dlogF x0 x1 x2 x3 x4) := by
  funext y
  refine View.canon_apply_of_pieces (dlogF x0 x1 x2 x3 x4) _ (View.PiecesOf.mem ?_) y (coverA_dlog c i arg1 harg1 arg2 harg2 arg3 harg3 arg4 harg4 arg5 harg5 arg6 harg6 arg7 harg7 arg8 harg8 arg9 harg9 arg10 harg10 arg11 harg11 hc0 hc1 hc2 hc3 x0 x1 x2 x3 x4 y)
  dsimp only [runA]
  exact ⟨dlog_tile harg1 harg2 harg3 harg4 harg5 x0 x1 x2 x3 x4 1 (by decide) (by decide) _ (by sl_kernel_rfl), dlog_tile harg1 harg2 harg3 harg4 harg5 x0 x1 x2 x3 x4 0 (by decide) (by decide) _ (by sl_kernel_rfl), trivial⟩

theorem coverA_dlp (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : cond0_0 i) (hc1 : cond0_1 i) (hc2 : ¬cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) :
    ∀ y, ∃ p ∈ (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4).2.2.2.1, y ∈ p.1.set := fun y =>
  View.cover_of_tiledL (s := S2x256x256) _ S1x256x256.size (by sl_kernel_rfl) y

/-- What case A keeps for the next point. -/
theorem canonA_dlp (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : cond0_0 i) (hc1 : cond0_1 i) (hc2 : ¬cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) :
    View.canon (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4).2.2.2.1 = (dlpF (dlogF x0 x1 x2 x3 x4)) := by
  funext y
  refine View.canon_apply_of_pieces (dlpF (dlogF x0 x1 x2 x3 x4)) _ (View.PiecesOf.mem ?_) y (coverA_dlp c i arg1 harg1 arg2 harg2 arg3 harg3 arg4 harg4 arg5 harg5 arg6 harg6 arg7 harg7 arg8 harg8 arg9 harg9 arg10 harg10 arg11 harg11 hc0 hc1 hc2 hc3 x0 x1 x2 x3 x4 y)
  dsimp only [runA]
  exact ⟨dlp_tile harg1 harg2 harg3 harg4 harg5 x0 x1 x2 x3 x4 1 (by decide) (by decide) _ (by sl_kernel_rfl), dlp_tile harg1 harg2 harg3 harg4 harg5 x0 x1 x2 x3 x4 0 (by decide) (by decide) _ (by sl_kernel_rfl), trivial⟩

theorem coverA_dls (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : cond0_0 i) (hc1 : cond0_1 i) (hc2 : ¬cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) :
    ∀ y, ∃ p ∈ (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4).2.2.2.2.1, y ∈ p.1.set := fun y =>
  View.cover_of_tiledL (s := S2x160x256) _ S1x160x256.size (by sl_kernel_rfl) y

/-- What case A keeps for the weight gradient. -/
theorem canonA_dls (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : cond0_0 i) (hc1 : cond0_1 i) (hc2 : ¬cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) :
    View.canon (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4).2.2.2.2.1 = (dlsF x1 (dlogF x0 x1 x2 x3 x4)) := by
  funext y
  refine View.canon_apply_of_pieces (dlsF x1 (dlogF x0 x1 x2 x3 x4)) _ (View.PiecesOf.mem ?_) y (coverA_dls c i arg1 harg1 arg2 harg2 arg3 harg3 arg4 harg4 arg5 harg5 arg6 harg6 arg7 harg7 arg8 harg8 arg9 harg9 arg10 harg10 arg11 harg11 hc0 hc1 hc2 hc3 x0 x1 x2 x3 x4 y)
  dsimp only [runA]
  exact ⟨dls_tile harg1 harg2 harg3 harg4 harg5 x0 x1 x2 x3 x4 1 (by decide) (by decide) _ (by sl_kernel_rfl), dls_tile harg1 harg2 harg3 harg4 harg5 x0 x1 x2 x3 x4 0 (by decide) (by decide) _ (by sl_kernel_rfl), trivial⟩

theorem coverB_dlog (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : ¬cond0_0 i) (hc1 : ¬cond0_1 i) (hc2 : cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) (xo6 : Vec Ideal S160x6144 .f32) (xs0 : Vec Ideal S256x6144 .bf16) (xs1 : Vec Ideal S2x256x256 .bf16) :
    ∀ y, ∃ p ∈ (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1).2.2.1, y ∈ p.1.set := fun y =>
  View.cover_of_tiledL (s := S2x160x256) _ S1x160x256.size (by sl_kernel_rfl) y

/-- What case B stores for `dlogits`. -/
theorem canonB_dlog (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : ¬cond0_0 i) (hc1 : ¬cond0_1 i) (hc2 : cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) (xo6 : Vec Ideal S160x6144 .f32) (xs0 : Vec Ideal S256x6144 .bf16) (xs1 : Vec Ideal S2x256x256 .bf16) :
    View.canon (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1).2.2.1 = (dlogF x0 x1 x2 x3 x4) := by
  funext y
  refine View.canon_apply_of_pieces (dlogF x0 x1 x2 x3 x4) _ (View.PiecesOf.mem ?_) y (coverB_dlog c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1 y)
  dsimp only [runB]
  exact ⟨dlog_tile harg1 harg2 harg3 harg4 harg5 x0 x1 x2 x3 x4 1 (by decide) (by decide) _ (by sl_kernel_rfl), dlog_tile harg1 harg2 harg3 harg4 harg5 x0 x1 x2 x3 x4 0 (by decide) (by decide) _ (by sl_kernel_rfl), trivial⟩

theorem coverB_dlp (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : ¬cond0_0 i) (hc1 : ¬cond0_1 i) (hc2 : cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) (xo6 : Vec Ideal S160x6144 .f32) (xs0 : Vec Ideal S256x6144 .bf16) (xs1 : Vec Ideal S2x256x256 .bf16) :
    ∀ y, ∃ p ∈ (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1).2.2.2.1, y ∈ p.1.set := fun y =>
  View.cover_of_tiledL (s := S2x256x256) _ S1x256x256.size (by sl_kernel_rfl) y

/-- What case B keeps for the next point. -/
theorem canonB_dlp (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : ¬cond0_0 i) (hc1 : ¬cond0_1 i) (hc2 : cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) (xo6 : Vec Ideal S160x6144 .f32) (xs0 : Vec Ideal S256x6144 .bf16) (xs1 : Vec Ideal S2x256x256 .bf16) :
    View.canon (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1).2.2.2.1 = (dlpF (dlogF x0 x1 x2 x3 x4)) := by
  funext y
  refine View.canon_apply_of_pieces (dlpF (dlogF x0 x1 x2 x3 x4)) _ (View.PiecesOf.mem ?_) y (coverB_dlp c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1 y)
  dsimp only [runB]
  exact ⟨dlp_tile harg1 harg2 harg3 harg4 harg5 x0 x1 x2 x3 x4 1 (by decide) (by decide) _ (by sl_kernel_rfl), dlp_tile harg1 harg2 harg3 harg4 harg5 x0 x1 x2 x3 x4 0 (by decide) (by decide) _ (by sl_kernel_rfl), trivial⟩

theorem coverB_dls (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : ¬cond0_0 i) (hc1 : ¬cond0_1 i) (hc2 : cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) (xo6 : Vec Ideal S160x6144 .f32) (xs0 : Vec Ideal S256x6144 .bf16) (xs1 : Vec Ideal S2x256x256 .bf16) :
    ∀ y, ∃ p ∈ (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1).2.2.2.2.1, y ∈ p.1.set := fun y =>
  View.cover_of_tiledL (s := S2x160x256) _ S1x160x256.size (by sl_kernel_rfl) y

/-- What case B keeps for the weight gradient. -/
theorem canonB_dls (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : ¬cond0_0 i) (hc1 : ¬cond0_1 i) (hc2 : cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) (xo6 : Vec Ideal S160x6144 .f32) (xs0 : Vec Ideal S256x6144 .bf16) (xs1 : Vec Ideal S2x256x256 .bf16) :
    View.canon (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1).2.2.2.2.1 = (dlsF x1 (dlogF x0 x1 x2 x3 x4)) := by
  funext y
  refine View.canon_apply_of_pieces (dlsF x1 (dlogF x0 x1 x2 x3 x4)) _ (View.PiecesOf.mem ?_) y (coverB_dls c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1 y)
  dsimp only [runB]
  exact ⟨dls_tile harg1 harg2 harg3 harg4 harg5 x0 x1 x2 x3 x4 1 (by decide) (by decide) _ (by sl_kernel_rfl), dls_tile harg1 harg2 harg3 harg4 harg5 x0 x1 x2 x3 x4 0 (by decide) (by decide) _ (by sl_kernel_rfl), trivial⟩

theorem coverB_dx (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : ¬cond0_0 i) (hc1 : ¬cond0_1 i) (hc2 : cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) (xo6 : Vec Ideal S160x6144 .f32) (xs0 : Vec Ideal S256x6144 .bf16) (xs1 : Vec Ideal S2x256x256 .bf16) :
    ∀ y, ∃ p ∈ (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1).1, y ∈ p.1.set := fun y =>
  View.cover_of_tiledL (s := S2x256x6144) _ S1x256x256.size (by sl_kernel_rfl) y

/-- What case B stores for `dx`. -/
theorem canonB_dx (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : ¬cond0_0 i) (hc1 : ¬cond0_1 i) (hc2 : cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) (xo6 : Vec Ideal S160x6144 .f32) (xs0 : Vec Ideal S256x6144 .bf16) (xs1 : Vec Ideal S2x256x256 .bf16) :
    View.canon (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1).1 = (dxF xs0 xs1) := by
  funext y
  refine View.canon_apply_of_pieces (dxF xs0 xs1) _ (View.PiecesOf.mem ?_) y (coverB_dx c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1 y)
  dsimp only [runB]
  repeat' first
    | exact trivial
    | refine ⟨dx_tile harg9 harg10 xs0 xs1 _ _ (by decide) (by decide) (by decide) _ rfl, ?_⟩

theorem coverC_dx (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : ¬cond0_0 i) (hc1 : ¬cond0_1 i) (hc2 : ¬cond0_2 i) (hc3 : cond0_3 i)
    (xs0 : Vec Ideal S256x6144 .bf16) (xs1 : Vec Ideal S2x256x256 .bf16) :
    ∀ y, ∃ p ∈ (runC (F := Ideal) c i arg1 harg1 arg2 harg2 arg3 harg3 arg4 harg4 arg5 harg5 arg6 harg6 arg7 harg7 arg8 harg8 arg9 harg9 arg10 harg10 arg11 harg11 hc0 hc1 hc2 hc3 xs0 xs1).1, y ∈ p.1.set := fun y =>
  View.cover_of_tiledL (s := S2x256x6144) _ S1x256x256.size (by sl_kernel_rfl) y

/-- What case C stores for `dx`. -/
theorem canonC_dx (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : ¬cond0_0 i) (hc1 : ¬cond0_1 i) (hc2 : ¬cond0_2 i) (hc3 : cond0_3 i)
    (xs0 : Vec Ideal S256x6144 .bf16) (xs1 : Vec Ideal S2x256x256 .bf16) :
    View.canon (runC (F := Ideal) c i arg1 harg1 arg2 harg2 arg3 harg3 arg4 harg4 arg5 harg5 arg6 harg6 arg7 harg7 arg8 harg8 arg9 harg9 arg10 harg10 arg11 harg11 hc0 hc1 hc2 hc3 xs0 xs1).1 = (dxF xs0 xs1) := by
  funext y
  refine View.canon_apply_of_pieces (dxF xs0 xs1) _ (View.PiecesOf.mem ?_) y (coverC_dx c i arg1 harg1 arg2 harg2 arg3 harg3 arg4 harg4 arg5 harg5 arg6 harg6 arg7 harg7 arg8 harg8 arg9 harg9 arg10 harg10 arg11 harg11 hc0 hc1 hc2 hc3 xs0 xs1 y)
  dsimp only [runC]
  repeat' first
    | exact trivial
    | refine ⟨dx_tile harg9 harg10 xs0 xs1 _ _ (by decide) (by decide) (by decide) _ rfl, ?_⟩

theorem coverA_wpad (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : cond0_0 i) (hc1 : cond0_1 i) (hc2 : ¬cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) :
    ∀ y, ∃ p ∈ (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4).2.2.1, y ∈ p.1.set := fun y =>
  View.cover_of_tiledBy (s := S256x6144) _ ![32, 6144] (by sl_kernel_rfl) y

/-- What case A keeps of the weights. -/
theorem canonA_wpad (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : cond0_0 i) (hc1 : cond0_1 i) (hc2 : ¬cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) :
    View.canon (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4).2.2.1 = (wpadF x2) := by
  funext y
  refine View.canon_apply_of_pieces (wpadF x2) _ (View.PiecesOf.mem ?_) y (coverA_wpad c i arg1 harg1 arg2 harg2 arg3 harg3 arg4 harg4 arg5 harg5 arg6 harg6 arg7 harg7 arg8 harg8 arg9 harg9 arg10 harg10 arg11 harg11 hc0 hc1 hc2 hc3 x0 x1 x2 x3 x4 y)
  dsimp only [runA]
  exact ⟨wpad_zero_tile x2 (by decide), wpad_tile harg3 x2 (by decide) (by decide), trivial⟩

theorem coverB_dw (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : ¬cond0_0 i) (hc1 : ¬cond0_1 i) (hc2 : cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) (xo6 : Vec Ideal S160x6144 .f32) (xs0 : Vec Ideal S256x6144 .bf16) (xs1 : Vec Ideal S2x256x256 .bf16) :
    ∀ y, ∃ p ∈ (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1).2.1, y ∈ p.1.set := fun y =>
  View.cover_of_tiledL (s := S160x6144) _ S160x256.size (by sl_kernel_rfl) y

/-- What case B makes of the accumulator. -/
theorem canonB_dw (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : ¬cond0_0 i) (hc1 : ¬cond0_1 i) (hc2 : cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) (xo6 : Vec Ideal S160x6144 .f32) (xs0 : Vec Ideal S256x6144 .bf16) (xs1 : Vec Ideal S2x256x256 .bf16) :
    View.canon (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1).2.1 = (dwF xo6 x0 (dlsF x1 (dlogF x0 x1 x2 x3 x4))) := by
  funext y
  refine View.canon_apply_of_pieces (dwF xo6 x0 (dlsF x1 (dlogF x0 x1 x2 x3 x4))) _ (View.PiecesOf.mem ?_) y (coverB_dw c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1 y)
  dsimp only [runB]
  have hL := canonB_dls c i arg1 harg1 arg2 harg2 arg3 harg3 arg4 harg4 arg5 harg5 arg6 harg6 arg7 harg7 arg8 harg8 arg9 harg9 arg10 harg10 arg11 harg11 hc0 hc1 hc2 hc3 x0 x1 x2 x3 x4 xo6 xs0 xs1
  repeat' first
    | exact trivial
    | refine ⟨dw_tile harg1 x0 xo6 hL _ (by decide) (by decide) (by decide) (by decide) (by decide) _ _ rfl (prev_tile harg7 xo6 _ (by decide)), ?_⟩

theorem coverA_dw (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : cond0_0 i) (hc1 : cond0_1 i) (hc2 : ¬cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) :
    ∀ y, ∃ p ∈ (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4).1, y ∈ p.1.set := fun y =>
  View.cover_of_tiledBy (s := S160x6144) _ ![160, 256] (by sl_kernel_rfl) y

set_option maxHeartbeats 1600000 in
/-- What case A makes of the accumulator. -/
theorem canonA_dw (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole)
    (hc0 : cond0_0 i) (hc1 : cond0_1 i) (hc2 : ¬cond0_2 i) (hc3 : ¬cond0_3 i)
    (x0 : Vec Ideal S2x256x6144 .fp8e4m3) (x1 : Vec Ideal S2x256 .f32) (x2 : Vec Ideal S160x6144 .bf16) (x3 : Vec Ideal S6x2x256 .i32) (x4 : Vec Ideal S6x2x256 .bf16) :
    View.canon (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4).1 = dwF (fun _ => (0 : EReal)) x0 (dlsF x1 (dlogF x0 x1 x2 x3 x4)) := by
  have hL := canonA_dls c i arg1 harg1 arg2 harg2 arg3 harg3 arg4 harg4 arg5 harg5 arg6 harg6 arg7 harg7 arg8 harg8 arg9 harg9 arg10 harg10 arg11 harg11 hc0 hc1 hc2 hc3 x0 x1 x2 x3 x4
  have h : AddedTo (dwF (fun _ => (0 : EReal)) x0 (dlsF x1 (dlogF x0 x1 x2 x3 x4))) (23 * 256 + 256) (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 x4).1 := by
    dsimp only [runA]
    refine AddedTo.step harg1 x0 ?_ hL (by decide) (by decide) (by decide) (by decide) (by decide) (by decide) _ rfl
    iterate 23 refine AddedTo.step harg1 x0 ?_ hL (by decide) (by decide) (by decide) (by decide) (by decide) (by decide) _ rfl
    exact added_zero (by decide) _
  funext y
  exact (h y).trans (if_pos (y 1).isLt)

end Cert.KernelIdeal.Run

end
-- ==== Proof.KFrame.lean ====
/-
  The launch, with what every buffer holds after each grid point written as a plain function of the blocks the windows
  bring in: the gradient of the logits at a block of tokens, the running sum of the weights' gradient, and the token
  gradient of the block before.
-/
module

public import proofs.«01_k».proof.Proof.Cases
public import proofs.«01_k».proof.Proof.Gen.KernelIdeal.Frame
public import Idealize.ShloMosaic.Lib.Pipeline.TableIdle

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the buffers hold -/

/-- The grid point at position `n` (the last one beyond the grid). -/
def pt (n : ℕ) : Fin cfg0.N := ⟨min n 64, lt_of_lt_of_eq (by omega) N_0.symm⟩

theorem pt_val (t : Fin cfg0.N) : pt t.val = t :=
  Fin.ext (by have hN : t.val < 65 := lt_of_lt_of_eq t.isLt N_0; show min t.val 64 = t.val; omega)

theorem pt_of (t : Fin cfg0.N) (n : ℕ) (h : t.val = n) : pt n = t := by rw [← h, pt_val]

/-- The gradient of the logits at the tokens of the block point `t` brings in. -/
def dlAt (c : Dev nD) (t : Fin cfg0.N) : Vec Ideal S2x160x256 .f32 :=
  dlogF (iblk m c 0 t) (iblk m c 1 t) (iblk m c 2 t) (iblk m c 3 t) (iblk m c 4 t)

/-- The same with each token's scale multiplied in. -/
def dlsAt (c : Dev nD) (t : Fin cfg0.N) : Vec Ideal S2x160x256 .bf16 := dlsF (iblk m c 1 t) (dlAt m c t)

/-- The weights' gradient summed over the blocks up to position `n`. -/
def dwAt (c : Dev nD) : ℕ → Vec Ideal S160x6144 .f32
  | 0 => dwF (fun _ => (0 : EReal)) (iblk m c 0 (pt 0)) (dlsAt m c (pt 0))
  | n + 1 => dwF (dwAt c n) (iblk m c 0 (pt (n + 1))) (dlsAt m c (pt (n + 1)))

/-- The weights with zero rows up to 256 experts, as the first point stores them. -/
def wpadAt (c : Dev nD) : Vec Ideal S256x6144 .bf16 := wpadF (iblk m c 2 (pt 0))

/-- The token gradient of the block at position `n`. -/
def dxAt (c : Dev nD) (n : ℕ) : Vec Ideal S2x256x6144 .bf16 := dxF (wpadAt m c) (dlpF (dlAt m c (pt n)))

/-- The region invariant before position `n`: before the first point every scratch buffer at anything; afterwards the
    padded weights, and the padded gradient of the logits of the last block of tokens seen. -/
def PhiS (c : Dev nD) : ℕ → sProp 𝕄
  | 0 => Pipeline.ΦA spec0 c
  | n + 1 => iprop(iprop(owns (c : Thread nD τ) scM0_0 fullShare (wpadAt m c) ∗ owns (c : Thread nD τ) scM0_1 fullShare (dlpF (dlAt m c (pt (min n 63)))) ∗ (∃ d, owns (c : Thread nD τ) scM0_2 fullShare d)) ∗ (∃ r, prngReg c r))

theorem PhiS_zero (c : Dev nD) (n : ℕ) (hz : n = 0) : PhiS m c n = Pipeline.ΦA spec0 c := by subst hz; rfl

theorem PhiS_succ (c : Dev nD) (n : ℕ) :
    PhiS m c (n + 1) = iprop(iprop(owns (c : Thread nD τ) scM0_0 fullShare (wpadAt m c) ∗ owns (c : Thread nD τ) scM0_1 fullShare (dlpF (dlAt m c (pt (min n 63)))) ∗ (∃ d, owns (c : Thread nD τ) scM0_2 fullShare d)) ∗ (∃ r, prngReg c r)) := rfl

theorem PhiS_pos (c : Dev nD) (n : ℕ) (hz : n ≠ 0) :
    PhiS m c n = iprop(iprop(owns (c : Thread nD τ) scM0_0 fullShare (wpadAt m c) ∗ owns (c : Thread nD τ) scM0_1 fullShare (dlpF (dlAt m c (pt (min (n - 1) 63)))) ∗ (∃ d, owns (c : Thread nD τ) scM0_2 fullShare d)) ∗ (∃ r, prngReg c r)) := by
  cases n with
  | zero => exact absurd rfl hz
  | succ n => rfl

/-- The proof data of the pipeline on core `c`: each input's buffer at its block, the outputs' at the functions above. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxAt m c (t.val - 1)
    | ⟨6, _⟩ => dwAt m c (min t.val 63)
    | ⟨7, _⟩ => dlAt m c (pt (min t.val 63))
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dxAt m c (t.val - 1) := by dsimp only [dats]
theorem after0_6 (c : Dev nD) (t : Fin cfg0.N) : (dats m 0 c).after 6 t = dwAt m c (min t.val 63) := by dsimp only [dats]
theorem after0_7 (c : Dev nD) (t : Fin cfg0.N) : (dats m 0 c).after 7 t = dlAt m c (pt (min t.val 63)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Where the outputs are idle -/

/-- Output 7's buffer is fresh at the first point and wherever the point before wrote it back, which is everywhere but
    the last point. -/
def freshTab0_7 : ℕ → Bool
  | 0 => true
  | n + 1 => (0x17fffffffffffffff : ℕ).testBit n

theorem freshTab0_7_step : ∀ t : Fin cfg0.N,
    freshTab0_7 (t.val + 1) = ((cfg0.win 7).flush t || (cfg0.idle 7 (cfg0.grid.coords t) && freshTab0_7 t.val)) := by decide +kernel

theorem fresh0_7_eq (t : Fin cfg0.N) : cfg0.fresh 7 t.val = freshTab0_7 t.val :=
  Pipeline.Cfg.fresh_tab cfg0 7 freshTab0_7 rfl freshTab0_7_step t.val (Nat.le_of_lt t.isLt)

theorem notFresh0_7_C (t : Fin cfg0.N) (h3 : t.val % 65 = 64) : cfg0.fresh 7 t.val = false := by
  rw [fresh0_7_eq t]; revert t; decide +kernel

theorem idle0_5_A : ∀ t : Fin cfg0.N, t.val % 65 = 0 → cfg0.idle 5 (cfg0.grid.coords t) = true ∧ (cfg0.win 5).flush t = false := by decide +kernel
theorem idle0_6 : ∀ t : Fin cfg0.N, cfg0.idle 6 (cfg0.grid.coords t) = true → t.val % 65 = 64 := by decide +kernel
theorem idle0_7 : ∀ t : Fin cfg0.N, cfg0.idle 7 (cfg0.grid.coords t) = true → t.val % 65 = 64 := by decide +kernel
theorem idle0_6_C : ∀ t : Fin cfg0.N, t.val % 65 = 64 → cfg0.idle 6 (cfg0.grid.coords t) = true ∧ (cfg0.win 6).flush t = true := by decide +kernel
theorem idle0_7_C : ∀ t : Fin cfg0.N, t.val % 65 = 64 → cfg0.idle 7 (cfg0.grid.coords t) = true ∧ (cfg0.win 7).flush t = true := by decide +kernel

/-- The last point, the only one idle for them, leaves outputs 6 and 7 as the point before did. -/
theorem hcarry0_6 (c : Dev nD) : ∀ (t : Fin cfg0.N) (_ : t.val ≠ 0), cfg0.idle 6 (cfg0.grid.coords t) = true → cfg0.fresh 6 t.val = false →
    (dats m 0 c).after 6 t = (dats m 0 c).after 6 ⟨t.val - 1, by omega⟩ := by
  intro t _ hi _
  have hN : t.val < 65 := lt_of_lt_of_eq t.isLt N_0
  have h := idle0_6 t hi
  rw [after0_6, after0_6]
  have e : min t.val 63 = min (t.val - 1) 63 := by omega
  rw [e]

theorem hcarry0_7 (c : Dev nD) : ∀ (t : Fin cfg0.N) (_ : t.val ≠ 0), cfg0.idle 7 (cfg0.grid.coords t) = true → cfg0.fresh 7 t.val = false →
    (dats m 0 c).after 7 t = (dats m 0 c).after 7 ⟨t.val - 1, by omega⟩ := by
  intro t _ hi _
  have hN : t.val < 65 := lt_of_lt_of_eq t.isLt N_0
  have h := idle0_7 t hi
  rw [after0_7, after0_7]
  have e : min t.val 63 = min (t.val - 1) 63 := by omega
  rw [e]

/-- At every later point output 6's buffer holds what the point before left. -/
theorem before0_6 (c : Dev nD) (t : Fin cfg0.N) (h : cfg0.fresh 6 t.val = false) (d) :
    (dats m 0 c).before 6 t d = dwAt m c (min (t.val - 1) 63) := by
  rw [Dat.before_out_traj _ 6 rfl (fun _ _ => rfl) (hcarry0_6 m c) t.val t rfl d, if_neg (by rw [h]; exact Bool.false_ne_true)]
  dsimp only [dats]

theorem before0_7 (c : Dev nD) (t : Fin cfg0.N) (h : cfg0.fresh 7 t.val = false) (d) :
    (dats m 0 c).before 7 t d = dlAt m c (pt (min (t.val - 1) 63)) := by
  rw [Dat.before_out_traj _ 7 rfl (fun _ _ => rfl) (hcarry0_7 m c) t.val t rfl d, if_neg (by rw [h]; exact Bool.false_ne_true)]
  dsimp only [dats]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 3200000 in
/-- The first point stores the padded weights, the first block's gradient of the logits and the first partial sum. -/
theorem body_A (c : Dev nD) (t : Fin cfg0.N) (h0 : t.val % 65 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_succ]
  have hN : t.val < 65 := lt_of_lt_of_eq t.isLt N_0
  have h2 : ¬(1 ≤ t.val % 65 ∧ t.val % 65 ≤ 63) := by omega
  have h3 : ¬t.val % 65 = 64 := by omega
  have hz : t.val = 0 := by omega
  have e0 : pt 0 = t := pt_of t 0 hz
  have e63 : pt (min t.val 63) = t := pt_of t _ (by omega)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle _ 5 t (idle0_5_A t h0).1 (idle0_5_A t h0).2]
  rw [show (dats m 0 c).leavesExact 6 t = owns (c : Thread nD τ) (ms0_6 t) fullShare ((dats m 0 c).after 6 t) from by
    unfold Dat.leavesExact; rw [liveAt0_6_A t ((hcond0_0 t).mpr h0) ((hcond0_1 t).mpr h0) (fun h => h2 ((hcond0_2 t).mp h)) (fun h => h3 ((hcond0_3 t).mp h))], after0_6]
  rw [show (dats m 0 c).leavesExact 7 t = owns (c : Thread nD τ) (ms0_7 t) fullShare ((dats m 0 c).after 7 t) from by
    unfold Dat.leavesExact; rw [liveAt0_7_A t ((hcond0_0 t).mpr h0) ((hcond0_1 t).mpr h0) (fun h => h2 ((hcond0_2 t).mp h)) (fun h => h3 ((hcond0_3 t).mp h))], after0_7]
  rw [PhiS_castSucc m c t, PhiS_zero m c _ hz, PhiA0_eq, e63]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) _ _ _ _ _ _ _ _ _ _ _ _ _ _ _ _ _ _ _ _ _ _ ((hcond0_0 t).mpr h0) ((hcond0_1 t).mpr h0) (fun h => h2 ((hcond0_2 t).mp h)) (fun h => h3 ((hcond0_3 t).mp h)) (iblk m c 0 t) (iblk m c 1 t) (iblk m c 2 t) (iblk m c 3 t) (iblk m c 4 t)).2.2.2.2.2 Set.univ _)
  isplitl [H0]; · iexact H0
  isplitl [H1]; · iexact H1
  isplitl [H2]; · iexact H2
  isplitl [H3]; · iexact H3
  isplitl [H4]; · iexact H4
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, ⟨%e6, H6⟩, ⟨%e7, H7⟩, ⟨%es0, HS0⟩, ⟨%es1, HS1⟩, ⟨%fT2, HS2⟩⟩
  isplitl [HS0 HS1 HS2 Hg]
  · isplitl [HS0 HS1 HS2]
    · isplitl [HS0]
      · unfold owns; iexists _; isplitr
        swap; · iexact HS0
        ipureintro; exact ((View.read_writes_eq_canon _ _ _ (coverA_wpad _ _ _ _ _ _ _ _ _ _ _ _ _ _ _ _ _ _ _ _ _ _ _ _ _ _ _ _ _ _ _ _ _)).trans (canonA_wpad _ _ _ _ _ _ _ _ _ _ _ _ _ _ _ _ _ _ _ _ _ _ _ _ _ _ _ _ _ _ _ _ _)).trans (by unfold wpadAt; rw [e0])
      isplitl [HS1]
      · unfold owns; iexists _; isplitr
        swap; · iexact HS1
        ipureintro; exact ((View.read_writes_eq_canon _ _ _ (coverA_dlp _ _ _ _ _ _ _ _ _ _ _ _ _ _ _ _ _ _ _ _ _ _ _ _ _ _ _ _ _ _ _ _ _)).trans (canonA_dlp _ _ _ _ _ _ _ _ _ _ _ _ _ _ _ _ _ _ _ _ _ _ _ _ _ _ _ _ _ _ _ _ _)).trans (by rfl)
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]
  · unfold owns; iexists _; isplitr
    swap; · iexact H6
    ipureintro; exact ((View.read_writes_eq_canon _ _ _ (coverA_dw _ _ _ _ _ _ _ _ _ _ _ _ _ _ _ _ _ _ _ _ _ _ _ _ _ _ _ _ _ _ _ _ _)).trans (canonA_dw _ _ _ _ _ _ _ _ _ _ _ _ _ _ _ _ _ _ _ _ _ _ _ _ _ _ _ _ _ _ _ _ _)).trans (by rw [show min t.val 63 = 0 by omega, dwAt, e0]; rfl)
  unfold owns; iexists _; isplitr
  swap; · iexact H7
  ipureintro; exact ((View.read_writes_eq_canon _ _ _ (coverA_dlog _ _ _ _ _ _ _ _ _ _ _ _ _ _ _ _ _ _ _ _ _ _ _ _ _ _ _ _ _ _ _ _ _)).trans (canonA_dlog _ _ _ _ _ _ _ _ _ _ _ _ _ _ _ _ _ _ _ _ _ _ _ _ _ _ _ _ _ _ _ _ _)).trans (by rfl)

set_option maxHeartbeats 3200000 in
/-- A middle point stores the token gradient of the block before, adds its own block to the weights' gradient and keeps
    its own gradient of the logits for the next point. -/
theorem body_B (c : Dev nD) (t : Fin cfg0.N) (h2 : 1 ≤ t.val % 65 ∧ t.val % 65 ≤ 63) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_succ]
  have hN : t.val < 65 := lt_of_lt_of_eq t.isLt N_0
  have h0 : ¬t.val % 65 = 0 := by omega
  have h3 : ¬t.val % 65 = 64 := by omega
  have hz : t.val ≠ 0 := by omega
  have ep : min (t.val - 1) 63 = t.val - 1 := by omega
  have e63 : pt (min t.val 63) = t := pt_of t _ (by omega)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5_B t (fun h => h0 ((hcond0_0 t).mp h)) (fun h => h0 ((hcond0_1 t).mp h)) ((hcond0_2 t).mpr h2) (fun h => h3 ((hcond0_3 t).mp h))], after0_5]
  rw [show (dats m 0 c).leavesExact 6 t = owns (c : Thread nD τ) (ms0_6 t) fullShare ((dats m 0 c).after 6 t) from by
    unfold Dat.leavesExact; rw [liveAt0_6_B t (fun h => h0 ((hcond0_0 t).mp h)) (fun h => h0 ((hcond0_1 t).mp h)) ((hcond0_2 t).mpr h2) (fun h => h3 ((hcond0_3 t).mp h))], after0_6]
  rw [show (dats m 0 c).leavesExact 7 t = owns (c : Thread nD τ) (ms0_7 t) fullShare ((dats m 0 c).after 7 t) from by
    unfold Dat.leavesExact; rw [liveAt0_7_B t (fun h => h0 ((hcond0_0 t).mp h)) (fun h => h0 ((hcond0_1 t).mp h)) ((hcond0_2 t).mpr h2) (fun h => h3 ((hcond0_3 t).mp h))], after0_7]
  rw [PhiS_castSucc m c t, PhiS_pos m c _ hz, e63, ep]
  simp only [before0_6 m c t (notFresh0_6_B t (fun h => h0 ((hcond0_0 t).mp h)) (fun h => h0 ((hcond0_1 t).mp h)) ((hcond0_2 t).mpr h2) (fun h => h3 ((hcond0_3 t).mp h))), ep]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) _ _ _ _ _ _ _ _ _ _ _ _ _ _ _ _ _ _ _ _ _ _ (fun h => h0 ((hcond0_0 t).mp h)) (fun h => h0 ((hcond0_1 t).mp h)) ((hcond0_2 t).mpr h2) (fun h => h3 ((hcond0_3 t).mp h)) (iblk m c 0 t) (iblk m c 1 t) (iblk m c 2 t) (iblk m c 3 t) (iblk m c 4 t) _ _ _).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, ⟨%e5, H5⟩, ⟨%e6, H6⟩, ⟨%e7, H7⟩, HS0, ⟨%es1, HS1⟩, ⟨%fT2, HS2⟩⟩
  isplitl [HS0 HS1 HS2 Hg]
  · isplitl [HS0 HS1 HS2]
    · isplitl [HS0]; · iexact HS0
      isplitl [HS1]
      · unfold owns; iexists _; isplitr
        swap; · iexact HS1
        ipureintro; exact ((View.read_writes_eq_canon _ _ _ (coverB_dlp _ _ _ _ _ _ _ _ _ _ _ _ _ _ _ _ _ _ _ _ _ _ _ _ _ _ _ _ _ _ _ _ _ _ _ _)).trans (canonB_dlp _ _ _ _ _ _ _ _ _ _ _ _ _ _ _ _ _ _ _ _ _ _ _ _ _ _ _ _ _ _ _ _ _ _ _ _)).trans (by rfl)
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact ((View.read_writes_eq_canon _ _ _ (coverB_dx _ _ _ _ _ _ _ _ _ _ _ _ _ _ _ _ _ _ _ _ _ _ _ _ _ _ _ _ _ _ _ _ _ _ _ _)).trans (canonB_dx _ _ _ _ _ _ _ _ _ _ _ _ _ _ _ _ _ _ _ _ _ _ _ _ _ _ _ _ _ _ _ _ _ _ _ _)).trans (by rfl)
  isplitl [H6]
  · unfold owns; iexists _; isplitr
    swap; · iexact H6
    ipureintro; exact ((View.read_writes_eq_canon _ _ _ (coverB_dw _ _ _ _ _ _ _ _ _ _ _ _ _ _ _ _ _ _ _ _ _ _ _ _ _ _ _ _ _ _ _ _ _ _ _ _)).trans (canonB_dw _ _ _ _ _ _ _ _ _ _ _ _ _ _ _ _ _ _ _ _ _ _ _ _ _ _ _ _ _ _ _ _ _ _ _ _)).trans (by rw [show min t.val 63 = (t.val - 1) + 1 by omega, dwAt, pt_of t (t.val - 1 + 1) (by omega)]; rfl)
  unfold owns; iexists _; isplitr
  swap; · iexact H7
  ipureintro; exact ((View.read_writes_eq_canon _ _ _ (coverB_dlog _ _ _ _ _ _ _ _ _ _ _ _ _ _ _ _ _ _ _ _ _ _ _ _ _ _ _ _ _ _ _ _ _ _ _ _)).trans (canonB_dlog _ _ _ _ _ _ _ _ _ _ _ _ _ _ _ _ _ _ _ _ _ _ _ _ _ _ _ _ _ _ _ _ _ _ _ _)).trans (by rfl)

set_option maxHeartbeats 3200000 in
/-- The last point stores the token gradient of the last block and touches nothing else. -/
theorem body_C (c : Dev nD) (t : Fin cfg0.N) (h3 : t.val % 65 = 64) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_succ]
  have hN : t.val < 65 := lt_of_lt_of_eq t.isLt N_0
  have h0 : ¬t.val % 65 = 0 := by omega
  have h2 : ¬(1 ≤ t.val % 65 ∧ t.val % 65 ≤ 63) := by omega
  have hz : t.val ≠ 0 := by omega
  have ep : min (t.val - 1) 63 = t.val - 1 := by omega
  have e63 : min t.val 63 = t.val - 1 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5_C t (fun h => h0 ((hcond0_0 t).mp h)) (fun h => h0 ((hcond0_1 t).mp h)) (fun h => h2 ((hcond0_2 t).mp h)) ((hcond0_3 t).mpr h3)], after0_5]
  rw [show (dats m 0 c).leavesExact 6 t = owns (c : Thread nD τ) (ms0_6 t) fullShare ((dats m 0 c).after 6 t) from by
    unfold Dat.leavesExact; rw [(idle0_6_C t h3).1, (idle0_6_C t h3).2], after0_6]
  rw [show (dats m 0 c).leavesExact 7 t = owns (c : Thread nD τ) (ms0_7 t) fullShare ((dats m 0 c).after 7 t) from by
    unfold Dat.leavesExact; rw [(idle0_7_C t h3).1, (idle0_7_C t h3).2], after0_7]
  rw [PhiS_castSucc m c t, PhiS_pos m c _ hz, e63, ep]
  simp only [before0_6 m c t (notFresh0_6_C t (fun h => h0 ((hcond0_0 t).mp h)) (fun h => h0 ((hcond0_1 t).mp h)) (fun h => h2 ((hcond0_2 t).mp h)) ((hcond0_3 t).mpr h3)), before0_7 m c t (notFresh0_7_C t h3), ep]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t) _ _ _ _ _ _ _ _ _ _ _ _ _ _ _ _ _ _ _ _ _ _ (fun h => h0 ((hcond0_0 t).mp h)) (fun h => h0 ((hcond0_1 t).mp h)) (fun h => h2 ((hcond0_2 t).mp h)) ((hcond0_3 t).mpr h3) (wpadAt m c) (dlpF (dlAt m c (pt (t.val - 1))))).2 Set.univ _)
  · isplitl [H5]; · iexists _; iexact H5
    isplitl [HS0]; · iexact HS0
    isplitl [HS1]; · iexact HS1
    iintro ⟨⟨%e5, H5⟩, HS0, HS1⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact ((View.read_writes_eq_canon _ _ _ (coverC_dx _ _ _ _ _ _ _ _ _ _ _ _ _ _ _ _ _ _ _ _ _ _ _ _ _ _ _ _ _ _)).trans (canonC_dx _ _ _ _ _ _ _ _ _ _ _ _ _ _ _ _ _ _ _ _ _ _ _ _ _ _ _ _ _ _)).trans (by rfl)
    isplitl [H6]; · iexact H6
    iexact H7

theorem sound_body (c : Dev nD) (t : Fin cfg0.N) :
    bodyPre m c t ⊢ wp frame (wpE (defs₀ (F := Ideal)) Variants.none c none) Set.univ (bodyAt0 t) (fun _ => bodyPost m c t) := by
  have hN : t.val < 65 := lt_of_lt_of_eq t.isLt N_0
  by_cases h0 : t.val % 65 = 0
  · exact body_A m c t h0
  · by_cases h3 : t.val % 65 = 64
    · exact body_C m c t h3
    · exact body_B m c t (by omega)

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 65 := N_0; omega), PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-! ## The run and the frame -/

set_option backward.isDefEq.respectTransparency.types false in
set_option maxHeartbeats 800000 in
/-- The launch ends with every array at what the proof data say and every semaphore counter at zero. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- The frame at the ideal floats. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Whole.lean ====
/-
  The three results as functions of the whole arguments: activations, scales, router weights, expert ids and the
  incoming gradients of the gates.
-/
module

public import proofs.«01_k».proof.Proof.Spec
public import Idealize.ShloMosaic.Lib.Pointwise

@[expose] public section

noncomputable section

namespace Cert.Spec

open Idealize.ShloMosaic

/-- Two sequences of 16384 tokens, each a row of 6144 features. -/
abbrev Acts := (⟨3, ![2, 16384, 6144]⟩ : Shape).Idx → EReal
/-- A number per token. -/
abbrev Scales := (⟨2, ![2, 16384]⟩ : Shape).Idx → EReal
/-- A weight per feature and expert. -/
abbrev Weights := (⟨2, ![6144, 160]⟩ : Shape).Idx → EReal
/-- The six experts of each token. -/
abbrev Ids := (⟨3, ![2, 16384, 6]⟩ : Shape).Idx → BitVec 32
/-- The incoming gradient of each token's six gates. -/
abbrev Grads := (⟨3, ![2, 16384, 6]⟩ : Shape).Idx → EReal

/-- The logit of token `s` of sequence `b` at expert `e`. -/
def logit (X : Acts) (S : Scales) (W : Weights) (b : Fin 2) (s : Fin 16384) (e : Fin 160) : EReal :=
  (∑ d : Fin 6144, X (ix3 b s d) * W (ix2 d e)) * S (ix2 b s)

/-- The gradient of that logit. -/
def dlogW (X : Acts) (S : Scales) (W : Weights) (I : Ids) (G : Grads) (b : Fin 2) (s : Fin 16384) (e : Fin 160) : EReal :=
  dlog (logit X S W b s) (fun k => I (ix3 b s k)) (fun k => G (ix3 b s k)) e

/-- The gradient of the activations. -/
def dxW (X : Acts) (S : Scales) (W : Weights) (I : Ids) (G : Grads) (b : Fin 2) (s : Fin 16384) (d : Fin 6144) : EReal :=
  ∑ e : Fin 160, dlogW X S W I G b s e * W (ix2 d e)

/-- What token `s` of sequence `b` adds to the weights' gradient. -/
def dwTerm (X : Acts) (S : Scales) (W : Weights) (I : Ids) (G : Grads) (d : Fin 6144) (e : Fin 160) (b : Fin 2) (s : Fin 16384) : EReal :=
  X (ix3 b s d) * (dlogW X S W I G b s e * S (ix2 b s))

/-- The gradient of the weights. -/
def dwW (X : Acts) (S : Scales) (W : Weights) (I : Ids) (G : Grads) (d : Fin 6144) (e : Fin 160) : EReal :=
  ∑ b : Fin 2, ∑ s : Fin 16384, dwTerm X S W I G d e b s

end Cert.Spec

end
-- ==== Proof.KBlocks.lean ====
/-
  What each input window brings in at a grid point, in terms of the arguments: point `t` sees the 256 tokens of block
  `min t 63`, and the whole of the weights, transposed.
-/
module

public import proofs.«01_k».proof.Proof.KFrame
public import proofs.«01_k».proof.Proof.Whole
public import Idealize.ShloMosaic.Lib.Pipeline.ValueKit
public import Idealize.ShloMosaic.Lib.Claim

@[expose] public section

set_option maxRecDepth 16384

noncomputable section

namespace Cert.KernelIdeal.Run

open Cert.KernelIdeal.Gen
open Idealize.ShloMosaic Idealize.ShloMosaic.TcCoe

variable (m : (ℓ : Loc nD τ sig) → Buf (Elt Ideal) ℓ)

/-- The block of 256 tokens that point `t` works on. -/
theorem win_index : ∀ t : Fin cfg0.N, win0_0.index t = ![0, min t.val 63, 0] ∧ win0_1.index t = ![0, min t.val 63]
    ∧ win0_2.index t = ![0, 0] ∧ win0_3.index t = ![0, 0, min t.val 63] ∧ win0_4.index t = ![0, 0, min t.val 63]
    ∧ win0_5.index t = ![0, t.val - 1, 0] ∧ win0_6.index t = ![0, 0] ∧ win0_7.index t = ![0, 0, min t.val 63] := by
  decide +kernel

/-- Token `r` of block `n`. -/
def tok (n : ℕ) (r : Fin 256) : Fin 16384 := ⟨256 * min n 63 + r.val, by omega⟩

/-- The activations that point `t` sees. -/
theorem iblk0_apply (c : Dev nD) (t : Fin cfg0.N) (b : Fin 2) (r : Fin 256) (d : Fin 6144) :
    iblk m c 0 t (ix3 b r d) = m ((c : Thread nD τ).loc main_arg0) (ix3 b (tok t.val r) d) := by
  unfold tok
  blk_ext! [iblk, V, (win_index t).1]

/-- The scales that point `t` sees. -/
theorem iblk1_apply (c : Dev nD) (t : Fin cfg0.N) (b : Fin 2) (r : Fin 256) :
    iblk m c 1 t (ix2 b r) = m ((c : Thread nD τ).loc main_arg1) (ix2 b (tok t.val r)) := by
  unfold tok
  blk_ext! [iblk, V, (win_index t).2.1]

/-- The launch reads the weights transposed. -/
theorem V_v0 (c : Dev nD) : V m c main_v0
    = transpose S160x6144 [1, 0] (m ((c : Thread nD τ).loc main_arg2) : Vec Ideal S6144x160 .bf16)
        transposes_S6144x160_S160x6144_1_0 := by
  entry_read
  rfl

/-- The launch reads the expert ids with the choice as first axis. -/
theorem V_v1 (c : Dev nD) : V m c main_v1
    = transpose S6x2x16384 [2, 0, 1] (m ((c : Thread nD τ).loc main_arg3) : Vec Ideal S2x16384x6 .i32)
        transposes_S2x16384x6_S6x2x16384_2_0_1 := by
  entry_read
  rfl

/-- The launch reads the incoming gradients with the choice as first axis. -/
theorem V_v2 (c : Dev nD) : V m c main_v2
    = transpose S6x2x16384 [2, 0, 1] (m ((c : Thread nD τ).loc main_arg4) : Vec Ideal S2x16384x6 .bf16)
        transposes_S2x16384x6_S6x2x16384_2_0_1 := by
  entry_read
  rfl

/-- The weights that point `t` sees. -/
theorem iblk2_apply (c : Dev nD) (t : Fin cfg0.N) (e : Fin 160) (d : Fin 6144) :
    iblk m c 2 t (ix2 e d) = m ((c : Thread nD τ).loc main_arg2) (ix2 d e) := by
  have h : iblk m c 2 t (ix2 e d) = V m c main_v0 (ix2 e d) := by
    blk_ext [iblk, (win_index t).2.2.1]
  rw [h, V_v0]
  pointwise

/-- The expert ids that point `t` sees. -/
theorem iblk3_apply (c : Dev nD) (t : Fin cfg0.N) (k : Fin 6) (b : Fin 2) (r : Fin 256) :
    iblk m c 3 t (ix3 k b r) = m ((c : Thread nD τ).loc main_arg3) (ix3 b (tok t.val r) k) := by
  have h : iblk m c 3 t (ix3 k b r) = V m c main_v1 (ix3 k b (tok t.val r)) := by
    unfold tok
    blk_ext [iblk, (win_index t).2.2.2.1]
  rw [h, V_v1]
  pointwise

/-- The incoming gradients that point `t` sees. -/
theorem iblk4_apply (c : Dev nD) (t : Fin cfg0.N) (k : Fin 6) (b : Fin 2) (r : Fin 256) :
    iblk m c 4 t (ix3 k b r) = m ((c : Thread nD τ).loc main_arg4) (ix3 b (tok t.val r) k) := by
  have h : iblk m c 4 t (ix3 k b r) = V m c main_v2 (ix3 k b (tok t.val r)) := by
    unfold tok
    blk_ext [iblk, (win_index t).2.2.2.2.1]
  rw [h, V_v2]
  pointwise

end Cert.KernelIdeal.Run

end
-- ==== Proof.KBlockVals.lean ====
/-
  What the buffers hold after a grid point, in terms of the arguments: the logits' gradient at the point's block of tokens,
  the activations' gradient at the block before, and the weights' gradient summed over the blocks so far.
-/
module

public import proofs.«01_k».proof.Proof.KBlocks

@[expose] public section

set_option maxRecDepth 16384

noncomputable section

namespace Cert.Spec

open Idealize.ShloMosaic

/-- The gradient of a logit depends only on the values of its arguments. -/
theorem dlog_congr {l l' : Fin 160 → EReal} {id id' : Fin 6 → BitVec 32} {d d' : Fin 6 → EReal} (e : Fin 160)
    (hl : ∀ e, l e = l' e) (hi : ∀ k, id k = id' k) (hd : ∀ k, d k = d' k) : dlog l id d e = dlog l' id' d' e := by
  obtain rfl := funext hl
  obtain rfl := funext hi
  obtain rfl := funext hd
  rfl

end Cert.Spec

namespace Cert.KernelIdeal.Run

open Cert.KernelIdeal.Gen
open Idealize.ShloMosaic Idealize.ShloMosaic.TcCoe

variable (m : (ℓ : Loc nD τ sig) → Buf (Elt Ideal) ℓ)

abbrev argX (c : Dev nD) : Spec.Acts := m ((c : Thread nD τ).loc main_arg0)
abbrev argS (c : Dev nD) : Spec.Scales := m ((c : Thread nD τ).loc main_arg1)
abbrev argW (c : Dev nD) : Spec.Weights := m ((c : Thread nD τ).loc main_arg2)
abbrev argI (c : Dev nD) : Spec.Ids := m ((c : Thread nD τ).loc main_arg3)
abbrev argG (c : Dev nD) : Spec.Grads := m ((c : Thread nD τ).loc main_arg4)

/-- The logits' gradient of the whole arguments, at token `s` of sequence `b` and expert `e`. -/
def dl (c : Dev nD) : Fin 2 → Fin 16384 → Fin 160 → EReal :=
  Spec.dlogW (argX m c) (argS m c) (argW m c) (argI m c) (argG m c)

/-- The logits' gradient at a point is that of the whole arguments at the point's tokens. -/
theorem dlAt_apply (c : Dev nD) (t : Fin cfg0.N) (b : Fin 2) (e : Fin 160) (r : Fin 256) :
    dlAt m c t (ix3 b e r) = dl m c b (tok t.val r) e := by
  refine Spec.dlog_congr e (fun e => ?_) (fun k => iblk3_apply m c t k b r) (fun k => iblk4_apply m c t k b r)
  refine Ideal.mul_congr (Finset.sum_congr rfl fun d _ => ?_) (iblk1_apply m c t b r)
  exact (mul_comm _ _).trans (Ideal.mul_congr (iblk0_apply m c t b r d) (iblk2_apply m c t e d))

theorem tok_pt (n : ℕ) (r : Fin 256) : tok (pt n).val r = tok n r := by
  unfold tok
  refine Fin.ext ?_
  show 256 * min (min n 64) 63 + r.val = 256 * min n 63 + r.val
  omega

/-- A sum over 256 experts of products whose first factor is zero beyond 160. -/
theorem sum_pad (f g : Fin 160 → EReal) (w : Fin 256 → EReal) (hw : ∀ e : Fin 160, w ⟨e.val, by omega⟩ = g e) :
    (∑ e : Fin 256, (if h : e.val < 160 then f ⟨e.val, h⟩ else 0) * w e) = ∑ e : Fin 160, f e * g e := by
  have h := Fin.sum_univ_add (a := 160) (b := 96) fun e => (if h : e.val < 160 then f ⟨e.val, h⟩ else (0 : EReal)) * w e
  refine h.trans ?_
  rw [Finset.sum_eq_zero (s := (Finset.univ : Finset (Fin 96))), add_zero]
  · refine Finset.sum_congr rfl fun e _ => ?_
    rw [dif_pos (show (Fin.castAdd 96 e).val < 160 from e.isLt)]
    exact Ideal.mul_congr rfl (hw e)
  · intro e _
    rw [dif_neg (show ¬ (Fin.natAdd 160 e).val < 160 by simp), zero_mul]

/-- The activations' gradient at a block of tokens: the zero rows beyond 160 experts add nothing. -/
theorem dxAt_apply (c : Dev nD) (n : ℕ) (b : Fin 2) (r : Fin 256) (d : Fin 6144) :
    dxAt m c n (ix3 b r d) = ∑ e : Fin 160, dl m c b (tok n r) e * argW m c (ix2 d e) := by
  refine (sum_pad (fun e => dlAt m c (pt n) (ix3 b e r)) (fun e => argW m c (ix2 d e)) (fun e => wpadAt m c (ix2 e d)) fun e => ?_).trans ?_
  · refine (dif_pos (show e.val < 160 from e.isLt)).trans ?_
    exact iblk2_apply m c (pt 0) e d
  · refine Finset.sum_congr rfl fun e _ => Ideal.mul_congr ?_ rfl
    rw [← tok_pt n r]
    exact dlAt_apply m c (pt n) b e r

/-- What token `s` of sequence `b` adds to the weights' gradient. -/
def dwTerm (c : Dev nD) (d : Fin 6144) (e : Fin 160) (b : Fin 2) (s : Fin 16384) : EReal :=
  argX m c (ix3 b s d) * (dl m c b s e * argS m c (ix2 b s))

/-- One product of the weights' gradient. -/
theorem dls_term (c : Dev nD) (n : ℕ) (e : Fin 160) (d : Fin 6144) (b : Fin 2) (r : Fin 256) :
    (dlsAt m c (pt n) (ix3 b e r) : EReal) * (iblk m c 0 (pt n) (ix3 b r d) : EReal) = dwTerm m c d e b (tok n r) := by
  refine (mul_comm _ _).trans ?_
  rw [← tok_pt n r]
  exact Ideal.mul_congr (iblk0_apply m c (pt n) b r d)
    (Ideal.mul_congr (dlAt_apply m c (pt n) b e r) (iblk1_apply m c (pt n) b r))

/-- What one block of tokens adds to the weights' gradient. -/
theorem dwAdd_apply (c : Dev nD) (n : ℕ) (e : Fin 160) (d : Fin 6144) :
    dwAdd (iblk m c 0 (pt n)) (dlsAt m c (pt n)) e d
      = (∑ r : Fin 256, dwTerm m c d e 0 (tok n r)) + ∑ r : Fin 256, dwTerm m c d e 1 (tok n r) :=
  Ideal.add_congr (Finset.sum_congr rfl fun r _ => dls_term m c n e d 0 r) (Finset.sum_congr rfl fun r _ => dls_term m c n e d 1 r)

/-- The running sum after block `n`. -/
theorem dwAt_eq (c : Dev nD) (e : Fin 160) (d : Fin 6144) (n : ℕ) : dwAt m c n (ix2 e d)
    = ∑ i ∈ Finset.range (n + 1), ((∑ r : Fin 256, dwTerm m c d e 0 (tok i r)) + ∑ r : Fin 256, dwTerm m c d e 1 (tok i r)) := by
  induction n with
  | zero =>
    rw [Finset.sum_range_succ, Finset.sum_range_zero]
    exact Ideal.add_congr rfl (dwAdd_apply m c 0 e d)
  | succ n ih =>
    rw [Finset.sum_range_succ, ← ih]
    exact Ideal.add_congr rfl (dwAdd_apply m c (n + 1) e d)

/-- A sum over 64 blocks of 256 tokens is the sum over all tokens. -/
theorem sum_tok (f : Fin 16384 → EReal) : (∑ i ∈ Finset.range 64, ∑ r : Fin 256, f (tok i r)) = ∑ s : Fin 16384, f s := by
  rw [Finset.sum_range]
  refine Fin.sum_mul_add_congr fun s k hl => ?_
  refine congrArg f (Fin.ext ?_)
  show 256 * min s.val 63 + k.val = s.val * 256 + k.val
  omega

/-- The running sum after the last block is the weights' gradient. -/
theorem dwAt_last (c : Dev nD) (e : Fin 160) (d : Fin 6144) :
    dwAt m c 63 (ix2 e d) = ∑ b : Fin 2, ∑ s : Fin 16384, dwTerm m c d e b s := by
  rw [dwAt_eq, Finset.sum_add_distrib, sum_tok, sum_tok, Fin.sum_univ_two]

end Cert.KernelIdeal.Run

end
-- ==== Proof.KFinal.lean ====
/-
  The three result arrays after the launch, in terms of the arguments.
-/
module

public import proofs.«01_k».proof.Proof.KBlockVals

@[expose] public section

set_option maxRecDepth 16384

noncomputable section

namespace Cert.KernelIdeal.Run

open Cert.KernelIdeal.Gen
open Idealize.ShloMosaic Idealize.ShloMosaic.TcCoe

variable (m : (ℓ : Loc nD τ sig) → Buf (Elt Ideal) ℓ)

/-- The activations' gradient of the whole arguments. -/
def dxRes (c : Dev nD) : (⟨3, ![2, 16384, 6144]⟩ : Shape).Idx → EReal :=
  fun i => Spec.dxW (argX m c) (argS m c) (argW m c) (argI m c) (argG m c) (i 0) (i 1) (i 2)

/-- The weights' gradient of the whole arguments. -/
def dwRes (c : Dev nD) : (⟨2, ![6144, 160]⟩ : Shape).Idx → EReal :=
  fun i => Spec.dwW (argX m c) (argS m c) (argW m c) (argI m c) (argG m c) (i 0) (i 1)

/-- The logits' gradient of the whole arguments. -/
def dlRes (c : Dev nD) : (⟨3, ![2, 16384, 160]⟩ : Shape).Idx → EReal := fun i => dl m c (i 0) (i 1) (i 2)

/-- The last grid point. -/
def tLast : Fin cfg0.N := ⟨64, lt_of_lt_of_eq (by omega) N_0.symm⟩

/-- The array of the activations' gradient, written block by block one point late. -/
theorem arr5 (c : Dev nD) : (dats m 0 c).arrAt 5 (cfgs 0).N = dxRes m c := by
  refine (dats m 0 c).arrAt_eq_of_covers 5 _ (by decide +kernel) fun t hf y => ?_
  blk_simp
  rw [after0_5]
  idx_vars y
  have ht : t.val < 65 := lt_of_lt_of_eq t.isLt N_0
  refine (dxAt_apply m c (t.val - 1) y0 y1 y2).trans ?_
  have e : (((View.whole main_v3_0).slice (win0_5.rect t)).emb (ix3 y0 y1 y2)) = ix3 y0 (tok (t.val - 1) y1) y2 := by
    unfold tok
    blk_ext [(win_index t).2.2.2.2.2.1]
  rw [e]
  rfl

/-- The array of the logits' gradient, experts before tokens. -/
theorem arr7 (c : Dev nD) : (dats m 0 c).arrAt 7 (cfgs 0).N = (fun i => dl m c (i 0) (i 2) (i 1) : (⟨3, ![2, 160, 16384]⟩ : Shape).Idx → EReal) := by
  refine (dats m 0 c).arrAt_eq_of_covers 7 _ (by decide +kernel) fun t hf y => ?_
  blk_simp
  rw [after0_7]
  idx_vars y
  have ht : t.val < 65 := lt_of_lt_of_eq t.isLt N_0
  refine (dlAt_apply m c (pt (min t.val 63)) y0 y1 y2).trans ?_
  rw [tok_pt]
  have e : (((View.whole main_v3_2).slice (win0_7.rect t)).emb (ix3 y0 y1 y2)) = ix3 y0 y1 (tok (min t.val 63) y2) := by
    unfold tok
    blk_ext [(win_index t).2.2.2.2.2.2.2]
  rw [e]
  rfl

/-- The array of the weights' gradient, experts before features, written once at the end. -/
theorem arr6 (c : Dev nD) : (dats m 0 c).arrAt 6 (cfgs 0).N = (fun i => dwRes m c (ix2 (i 1) (i 0)) : (⟨2, ![160, 6144]⟩ : Shape).Idx → EReal) := by
  refine (dats m 0 c).arrAt_eq_of_after_last 6 tLast (by decide +kernel) _ fun j => ?_
  blk_simp
  rw [after0_6]
  idx_vars j
  exact dwAt_last m c j0 j1

end Cert.KernelIdeal.Run

end
-- ==== Proof.KResults.lean ====
/-
  The launch's results, transposed on the host where the program does so, as functions of the arguments.
-/
module

public import proofs.«01_k».proof.Proof.KFinal
public import Idealize.ShloMosaic.Lib.Claim

@[expose] public section

set_option maxRecDepth 16384

noncomputable section

namespace Cert.KernelIdeal.Run

open Cert.KernelIdeal.Gen
open Idealize.ShloMosaic Idealize.ShloMosaic.TcCoe Idealize.SL.Sem

variable (m : (ℓ : Loc nD τ sig) → Buf (Elt Ideal) ℓ) (ρ : Dev nD → PrngReg)

/-- What the buffers hold after the region. -/
abbrev afterRegion (c : Dev nD) : Valuation τ sig (Elt Ideal) :=
  Pipeline.withArrays (cfgs 0).spec c (V0 m c) fun w => (dats m 0 c).arrAt w (cfgs 0).N

/-- Each window's array as the region leaves it. -/
theorem afterRegion_arr (c : Dev nD) (w : Fin cfg0.W) :
    afterRegion m c (Proc.devRef .tc (Pipeline.arrRef spec0 w)) = (dats m 0 c).arrAt w (cfgs 0).N :=
  Pipeline.withArrays_arr spec0 (by decide) c (V0 m c) (fun w => (dats m 0 c).arrAt w (cfgs 0).N) w

/-- The weights' gradient, transposed on the host. -/
theorem tail_v4 (c : Dev nD) : Pipeline.afterTail₀ cfgs (dats m) 0 (V0 m) [hostOps1] c main_v4 = dwRes m c := by
  have h : Pipeline.afterTail₀ cfgs (dats m) 0 (V0 m) [hostOps1] c main_v4
      = transpose S6144x160 [1, 0] (afterRegion m c (Proc.devRef .tc main_v3_1) : Vec Ideal S160x6144 .f32) transposes_S160x6144_S6144x160_1_0 := by
    rfl
  have ha : afterRegion m c (Proc.devRef .tc main_v3_1) = _ := (afterRegion_arr m c 6).trans (arr6 m c)
  rw [h, ha]
  funext y
  idx_vars y
  pointwise

/-- The logits' gradient, transposed on the host. -/
theorem tail_v5 (c : Dev nD) : Pipeline.afterTail₀ cfgs (dats m) 0 (V0 m) [hostOps1] c main_v5 = dlRes m c := by
  have h : Pipeline.afterTail₀ cfgs (dats m) 0 (V0 m) [hostOps1] c main_v5
      = transpose S2x16384x160 [0, 2, 1] (afterRegion m c (Proc.devRef .tc main_v3_2) : Vec Ideal S2x160x16384 .f32) transposes_S2x160x16384_S2x16384x160_0_2_1 := by
    rfl
  have ha : afterRegion m c (Proc.devRef .tc main_v3_2) = _ := (afterRegion_arr m c 7).trans (arr7 m c)
  rw [h, ha]
  funext y
  idx_vars y
  pointwise
  rfl

/-- The results of the launch and its unchanged arguments. -/
theorem results : θ_run defs (onTc (τ := τ) (main (F := Ideal))) ⟨m, fun _ => 0, ρ⟩ (fun r => ∀ c : Dev nD,
    r.2.mem ((c : Thread nD τ).loc main_v3_0) = dxRes m c
    ∧ r.2.mem ((c : Thread nD τ).loc main_v4) = dwRes m c
    ∧ r.2.mem ((c : Thread nD τ).loc main_v5) = dlRes m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) := by
  run_from run_main m ρ
  · exact arr5 m c
  · exact tail_v4 m c
  · exact tail_v5 m c
  · exact W_main_arg2 m (dats m) c
  · exact W_main_arg3 m (dats m) c
  · exact W_main_arg4 m (dats m) c

end Cert.KernelIdeal.Run

end
-- ==== Proof.Softmax.lean ====
/-
  The softmax with its maximum and sums taken over the six entries at once, and the six values spread over the experts as
  a sum: the same numbers as `Spec.dsel` and, where the six experts differ, `Spec.put`.
-/
module

public import proofs.«01_k».proof.Proof.Spec
public import Idealize.ShloMosaic.Lib.Affine

@[expose] public section

noncomputable section

namespace Cert.Spec

open Idealize.ShloMosaic

/-- The word of minus infinity. -/
theorem ofBits_bot : Ideal.ofBits .f32 0xFF800000#32 = (⊥ : EReal) := by simp [Ideal.ofBits, Ideal.ieee]

/-- The maximum of six values as a fold from minus infinity. -/
theorem fold_top (s : Fin 6 → EReal) :
    max (Ideal.ofBits .f32 0xFF800000#32) (Finset.fold max (Ideal.ofBits .f32 0xFF800000#32) s Finset.univ) = top s := by
  rw [ofBits_bot, max_eq_right bot_le]
  rw [show (Finset.univ : Finset (Fin 6)) = {0, 1, 2, 3, 4, 5} from by decide]
  rw [Finset.fold_insert (by decide), Finset.fold_insert (by decide), Finset.fold_insert (by decide),
    Finset.fold_insert (by decide), Finset.fold_insert (by decide), Finset.fold_singleton]
  rw [max_eq_left (bot_le : (⊥ : EReal) ≤ s 5)]
  unfold top
  simp only [max_assoc]

theorem sum_six (f : Fin 6 → EReal) : ∑ k : Fin 6, f k = f 0 + f 1 + f 2 + f 3 + f 4 + f 5 := Fin.sum_univ_six f

/-- The gradient of the `k`-th selected logit, its maximum a fold and its sums over the six entries. -/
theorem dsel_fold (s d : Fin 6 → EReal) (k : Fin 6) :
    Ideal.div (Ideal.exp (s k - max (Ideal.ofBits .f32 0xFF800000#32) (Finset.fold max (Ideal.ofBits .f32 0xFF800000#32) s Finset.univ)))
        (∑ x : Fin 6, Ideal.exp (s x - max (Ideal.ofBits .f32 0xFF800000#32) (Finset.fold max (Ideal.ofBits .f32 0xFF800000#32) s Finset.univ)))
      * (d k - ∑ x : Fin 6, Ideal.div (Ideal.exp (s x - max (Ideal.ofBits .f32 0xFF800000#32) (Finset.fold max (Ideal.ofBits .f32 0xFF800000#32) s Finset.univ)))
          (∑ y : Fin 6, Ideal.exp (s y - max (Ideal.ofBits .f32 0xFF800000#32) (Finset.fold max (Ideal.ofBits .f32 0xFF800000#32) s Finset.univ))) * d x)
      = dsel s d k := by
  rw [fold_top]
  simp only [sum_six]
  rfl

theorem pick_eq {id : BitVec 32} {e : Fin 160} (x y : EReal) (h : id = BitVec.ofNat 32 e.val) : pick id e x y = x := by
  unfold pick
  rw [h]
  simp [Scalar.select, IntOp.cmpi]

theorem pick_ne {id : BitVec 32} {e : Fin 160} (x y : EReal) (h : id ≠ BitVec.ofNat 32 e.val) : pick id e x y = y := by
  unfold pick
  simp [Scalar.select, IntOp.cmpi, beq_false_of_ne h]

/-- Where at most one of the experts is `e`, the values written over each other are the sum of the masked values. -/
theorem sum_pick (id : Fin 6 → BitVec 32) (v : Fin 6 → EReal) (e : Fin 160) (hd : ∀ k l, k ≠ l → id k ≠ id l) :
    ∑ k : Fin 6, pick (id k) e (v k) 0 = put id v e := by
  by_cases h : ∃ k, id k = BitVec.ofNat 32 e.val
  · obtain ⟨k, hk⟩ := h
    have hn : ∀ l, l ≠ k → ∀ x y, pick (id l) e x y = y := fun l hl x y => pick_ne x y fun hh => hd l k hl (hh.trans hk.symm)
    rw [Finset.sum_eq_single k (fun l _ hl => hn l hl _ _) (fun hh => absurd (Finset.mem_univ k) hh), pick_eq _ _ hk]
    have hp : ∀ x y, pick (id k) e x y = x := fun x y => pick_eq x y hk
    unfold put
    fin_cases k <;> dsimp only at hp hn <;> simp [hn] <;> exact (hp _ _).symm
  · have hn : ∀ l x y, pick (id l) e x y = y := fun l x y => pick_ne x y fun hh => h ⟨l, hh⟩
    unfold put
    simp only [hn, Finset.sum_const_zero]

end Cert.Spec

end
-- ==== Proof.RPay.lean ====
/-
  What the reference's body computes, at an index.
-/
module

public import proofs.«01_k».proof.Proof.Gen.ReferenceIdeal.Frame
public import proofs.«01_k».proof.Proof.Whole
public import proofs.«01_k».proof.Proof.Softmax
public import Idealize.ShloMosaic.Lib.Pipeline.ValueKit

@[expose] public section

set_option maxRecDepth 16384

noncomputable section

namespace Cert.ReferenceIdeal.Run

open Cert.ReferenceIdeal.Gen
open Idealize.ShloMosaic Idealize.ShloMosaic.TcCoe

/-- The mask of each token's chosen experts. -/
theorem mask_apply (I : Vec Ideal S2x16384x6 .i32) (b : Fin 2) (s : Fin 16384) (k : Fin 6) (e : Fin 160) :
    k0_pay6 (F := Ideal) I (ix4 b s k e) = IntOp.cmpi .eq (I (ix3 b s k)) (BitVec.ofNat 32 e.val) := by
  pointwise [k0_pay6]

/-- The gradient of the chosen logits. -/
theorem dsel_apply (S : Vec Ideal S2x16384 .f32) (W : Vec Ideal S6144x160 .bf16) (X : Vec Ideal S2x16384x6144 .fp8e4m3)
    (I : Vec Ideal S2x16384x6 .i32) (G : Vec Ideal S2x16384x6 .bf16) (b : Fin 2) (s : Fin 16384) (k : Fin 6) :
    k0_pay7 S W X I G (ix4 b s k 0)
      = Spec.dsel (fun k => Spec.sel (Spec.logit X S W b s) (I (ix3 b s k))) (fun k => G (ix3 b s k)) k := by
  pointwise [k0_pay7, k0_pay6, k0_pay5]
  exact Spec.dsel_fold (fun k => Spec.sel (Spec.logit X S W b s) (I (ix3 b s k))) (fun k => G (ix3 b s k)) k

/-- The chosen values spread over the experts, as a sum of masked values. -/
theorem put_apply (p : IVec S2x16384x6x160 1) (v : FVec Ideal S2x16384x6x1 .f32) (b : Fin 2) (s : Fin 16384) (e : Fin 160) :
    k0_pay1 p v (ix3 b s e) = ∑ k : Fin 6, Scalar.select (p (ix4 b s k e)) (v (ix4 b s k 0) : EReal) (0 : EReal) := by
  pointwise [k0_pay1]

set_option maxRecDepth 65536 in
/-- The activations' gradient from the logits' gradient. -/
theorem dx_apply (W : Vec Ideal S6144x160 .bf16) (p : IVec S2x16384x6x160 1) (v : FVec Ideal S2x16384x6x1 .f32)
    (b : Fin 2) (s : Fin 16384) (d : Fin 6144) :
    k0_pay3 W p v (ix3 b s d) = ∑ e : Fin 160, (k0_pay1 p v (ix3 b s e) : EReal) * (W (ix2 d e) : EReal) := by
  pointwise [k0_pay3, k0_pay2]

/-- The weights' gradient from the logits' gradient. -/
theorem dw_apply (S : Vec Ideal S2x16384 .f32) (X : FVec Ideal S2x16384x6144 .bf16) (p : IVec S2x16384x6x160 1) (v : FVec Ideal S2x16384x6x1 .f32)
    (d : Fin 6144) (e : Fin 160) :
    k0_pay4 S X p v (ix2 d e)
      = ∑ b : Fin 2, ∑ s : Fin 16384, (X (ix3 b s d) : EReal) * ((k0_pay1 p v (ix3 b s e) : EReal) * (S (ix2 b s) : EReal)) := by
  pointwise [k0_pay4, k0_pay2]

end Cert.ReferenceIdeal.Run

end
-- ==== Proof.RValue.lean ====
/-
  The reference's three result arrays, in terms of the arguments, where the six experts of every token differ.
-/
module

public import proofs.«01_k».proof.Proof.RPay

@[expose] public section

set_option maxRecDepth 16384

noncomputable section

namespace Cert.ReferenceIdeal.Run

open Cert.ReferenceIdeal.Gen
open Idealize.ShloMosaic Idealize.ShloMosaic.TcCoe

variable (m : (ℓ : Loc nD τ sig) → Buf (Elt Ideal) ℓ)

abbrev argX (c : Dev nD) : Spec.Acts := m ((c : Thread nD τ).loc main_arg0)
abbrev argS (c : Dev nD) : Spec.Scales := m ((c : Thread nD τ).loc main_arg1)
abbrev argW (c : Dev nD) : Spec.Weights := m ((c : Thread nD τ).loc main_arg2)
abbrev argI (c : Dev nD) : Spec.Ids := m ((c : Thread nD τ).loc main_arg3)
abbrev argG (c : Dev nD) : Spec.Grads := m ((c : Thread nD τ).loc main_arg4)

/-- Every block is the whole of its array. -/
theorem win_index : ∀ t : Fin cfg0.N, win0_0.index t = ![0, 0, 0] ∧ win0_1.index t = ![0, 0] ∧ win0_2.index t = ![0, 0]
    ∧ win0_3.index t = ![0, 0, 0] ∧ win0_4.index t = ![0, 0, 0] ∧ win0_5.index t = ![0, 0, 0] ∧ win0_6.index t = ![0, 0]
    ∧ win0_7.index t = ![0, 0, 0] := by
  decide +kernel

theorem iblk0_eq (c : Dev nD) (t : Fin cfg0.N) : iblk m c 0 t = argX m c := by
  funext y
  blk_ext [iblk, V, (win_index t).1]

theorem iblk1_eq (c : Dev nD) (t : Fin cfg0.N) : iblk m c 1 t = argS m c := by
  funext y
  blk_ext [iblk, V, (win_index t).2.1]

theorem iblk2_eq (c : Dev nD) (t : Fin cfg0.N) : iblk m c 2 t = argW m c := by
  funext y
  blk_ext [iblk, V, (win_index t).2.2.1]

theorem iblk3_eq (c : Dev nD) (t : Fin cfg0.N) : iblk m c 3 t = argI m c := by
  funext y
  blk_ext [iblk, V, (win_index t).2.2.2.1]

theorem iblk4_eq (c : Dev nD) (t : Fin cfg0.N) : iblk m c 4 t = argG m c := by
  funext y
  blk_ext [iblk, V, (win_index t).2.2.2.2.1]

theorem pay8_eq (X : Vec Ideal S2x16384x6144 .fp8e4m3) (S : Vec Ideal S2x16384 .f32) (W : Vec Ideal S6144x160 .bf16)
    (I : Vec Ideal S2x16384x6 .i32) (G : Vec Ideal S2x16384x6 .bf16) : k0_pay8 X S W I G = k0_pay6 (F := Ideal) I := by
  unfold k0_pay8
  frame_out

theorem pay9_eq (X : Vec Ideal S2x16384x6144 .fp8e4m3) (S : Vec Ideal S2x16384 .f32) (W : Vec Ideal S6144x160 .bf16)
    (I : Vec Ideal S2x16384x6 .i32) (G : Vec Ideal S2x16384x6 .bf16) : k0_pay9 X S W I G = k0_pay7 S W X I G := by
  unfold k0_pay9
  frame_out

theorem pay5_apply (X : Vec Ideal S2x16384x6144 .fp8e4m3) (b : Fin 2) (s : Fin 16384) (d : Fin 6144) :
    (k0_pay5 X (ix3 b s d) : EReal) = X (ix3 b s d) := by
  pointwise [k0_pay5]

/-- The logits' gradient that the reference computes. -/
theorem out7_apply (X : Vec Ideal S2x16384x6144 .fp8e4m3) (S : Vec Ideal S2x16384 .f32) (W : Vec Ideal S6144x160 .bf16)
    (I : Vec Ideal S2x16384x6 .i32) (G : Vec Ideal S2x16384x6 .bf16)
    (hd : ∀ b s k l, k ≠ l → I (ix3 b s k) ≠ I (ix3 b s l)) (b : Fin 2) (s : Fin 16384) (e : Fin 160) :
    k0_pay1 (k0_pay6 (F := Ideal) I) (k0_pay7 S W X I G) (ix3 b s e) = Spec.dlogW X S W I G b s e := by
  refine (put_apply _ _ b s e).trans (Eq.trans ?_ (Spec.sum_pick (fun k => I (ix3 b s k)) _ e fun k l h => hd b s k l h))
  refine Finset.sum_congr rfl fun k _ => ?_
  rw [mask_apply, dsel_apply]
  rfl

/-- The array of the logits' gradient. -/
theorem arr7 (c : Dev nD) (hd : ∀ b s k l, k ≠ l → argI m c (ix3 b s k) ≠ argI m c (ix3 b s l)) :
    (dats m 0 c).arrAt 7 (cfgs 0).N
      = (fun i => Spec.dlogW (argX m c) (argS m c) (argW m c) (argI m c) (argG m c) (i 0) (i 1) (i 2) : (⟨3, ![2, 16384, 160]⟩ : Shape).Idx → EReal) := by
  refine (dats m 0 c).arrAt_eq_of_covers 7 _ (by decide +kernel) fun t hf y => ?_
  blk_simp
  rw [after0_7, iblk0_eq, iblk1_eq, iblk2_eq, iblk3_eq, iblk4_eq]
  frame_out
  idx_vars y
  have e : (((View.whole main_v0_2).slice (win0_7.rect t)).emb (ix3 y0 y1 y2)) = ix3 y0 y1 y2 := by
    blk_ext [(win_index t).2.2.2.2.2.2.2]
  rw [e, pay8_eq, pay9_eq]
  exact out7_apply _ _ _ _ _ hd y0 y1 y2

/-- The array of the activations' gradient. -/
theorem arr5 (c : Dev nD) (hd : ∀ b s k l, k ≠ l → argI m c (ix3 b s k) ≠ argI m c (ix3 b s l)) :
    (dats m 0 c).arrAt 5 (cfgs 0).N
      = (fun i => Spec.dxW (argX m c) (argS m c) (argW m c) (argI m c) (argG m c) (i 0) (i 1) (i 2) : (⟨3, ![2, 16384, 6144]⟩ : Shape).Idx → EReal) := by
  refine (dats m 0 c).arrAt_eq_of_covers 5 _ (by decide +kernel) fun t hf y => ?_
  blk_simp
  rw [after0_5, iblk0_eq, iblk1_eq, iblk2_eq, iblk3_eq, iblk4_eq]
  frame_out
  idx_vars y
  have e : (((View.whole main_v0_0).slice (win0_5.rect t)).emb (ix3 y0 y1 y2)) = ix3 y0 y1 y2 := by
    blk_ext [(win_index t).2.2.2.2.2.1]
  rw [e, pay8_eq, pay9_eq]
  refine (dx_apply _ _ _ y0 y1 y2).trans (Finset.sum_congr rfl fun e _ => Ideal.mul_congr ?_ rfl)
  exact out7_apply _ _ _ _ _ hd y0 y1 e

/-- The array of the weights' gradient. -/
theorem arr6 (c : Dev nD) (hd : ∀ b s k l, k ≠ l → argI m c (ix3 b s k) ≠ argI m c (ix3 b s l)) :
    (dats m 0 c).arrAt 6 (cfgs 0).N
      = (fun i => Spec.dwW (argX m c) (argS m c) (argW m c) (argI m c) (argG m c) (i 0) (i 1) : (⟨2, ![6144, 160]⟩ : Shape).Idx → EReal) := by
  refine (dats m 0 c).arrAt_eq_of_covers 6 _ (by decide +kernel) fun t hf y => ?_
  blk_simp
  rw [after0_6, iblk0_eq, iblk1_eq, iblk2_eq, iblk3_eq, iblk4_eq]
  frame_out
  idx_vars y
  have e : (((View.whole main_v0_1).slice (win0_6.rect t)).emb (ix2 y0 y1)) = ix2 y0 y1 := by
    blk_ext [(win_index t).2.2.2.2.2.2.1]
  rw [e, pay8_eq, pay9_eq]
  refine (dw_apply _ _ _ _ y0 y1).trans (Finset.sum_congr rfl fun b _ => Finset.sum_congr rfl fun s _ => ?_)
  exact Ideal.mul_congr (pay5_apply _ b s y0) (Ideal.mul_congr (out7_apply _ _ _ _ _ hd b s y1) rfl)

end Cert.ReferenceIdeal.Run

end
-- ==== Proof.Distinct.lean ====
/-
  The precondition read out: the six experts of every token differ.
-/
module

public import proofs.«01_k».proof.Proof.Gen.Pre_distinct_ids
public import Idealize.ShloMosaic.Lib.Pipeline.ValueKit
public import Idealize.ShloMosaic.Lib.ReduceAll
public import Idealize.ShloMosaic.Lib.Affine

@[expose] public section

set_option maxRecDepth 16384

noncomputable section

namespace Cert.Pre_distinct_ids

open Idealize.ShloMosaic

/-- The first expert of the `p`-th pair that the precondition compares. -/
def lo : Fin 15 → Fin 6 := ![0, 0, 1, 0, 1, 2, 0, 1, 2, 3, 0, 1, 2, 3, 4]
/-- The second expert of the `p`-th pair. -/
def hi : Fin 15 → Fin 6 := ![1, 2, 2, 3, 3, 3, 4, 4, 4, 4, 5, 5, 5, 5, 5]

/-- A fact about all 15 pairs, from each. -/
theorem pair_all (p : Fin 15) (P : Fin 15 → Prop) (h0 : P 0) (h1 : P 1) (h2 : P 2) (h3 : P 3) (h4 : P 4) (h5 : P 5) (h6 : P 6)
    (h7 : P 7) (h8 : P 8) (h9 : P 9) (h10 : P 10) (h11 : P 11) (h12 : P 12) (h13 : P 13) (h14 : P 14) : P p := by
  fin_cases p <;> assumption

theorem ne_of_cmpi {a b : BitVec 32} (h : IntOp.cmpi .ne a b = 1#1) : a ≠ b := by
  rintro rfl
  simp [IntOp.cmpi] at h

/-- The two experts of each compared pair differ. -/
theorem pair_ne (X : FVec Ideal S2x16384x6144 .fp8e4m3) (S : FVec Ideal S2x16384 .f32) (W : FVec Ideal S6144x160 .bf16)
    (I : IVec S2x16384x6 32) (G : FVec Ideal S2x16384x6 .bf16) (j : S_.Idx) (h : fn X S W I G j = 1#1) (b : Fin 2) (s : Fin 16384)
    (p : Fin 15) : I (ix3 b s (lo p)) ≠ I (ix3 b s (hi p)) := by
  dsimp only [fn, fn_part1, fn_part2, fn_part3] at h
  have h0 := fun p : Fin 15 => Host.reduce_andi_all _ _ _ _ _ h (ix3 p b s)
  refine pair_all p (fun p => I (ix3 b s (lo p)) ≠ I (ix3 b s (hi p)))
    (ne_of_cmpi (.trans ?_ (h0 0))) (ne_of_cmpi (.trans ?_ (h0 1))) (ne_of_cmpi (.trans ?_ (h0 2)))
    (ne_of_cmpi (.trans ?_ (h0 3))) (ne_of_cmpi (.trans ?_ (h0 4))) (ne_of_cmpi (.trans ?_ (h0 5)))
    (ne_of_cmpi (.trans ?_ (h0 6))) (ne_of_cmpi (.trans ?_ (h0 7))) (ne_of_cmpi (.trans ?_ (h0 8)))
    (ne_of_cmpi (.trans ?_ (h0 9))) (ne_of_cmpi (.trans ?_ (h0 10))) (ne_of_cmpi (.trans ?_ (h0 11)))
    (ne_of_cmpi (.trans ?_ (h0 12))) (ne_of_cmpi (.trans ?_ (h0 13))) (ne_of_cmpi (.trans ?_ (h0 14)))
  all_goals clear h h0; pointwise; rfl

/-- The six experts of a token differ. -/
theorem distinct (X : FVec Ideal S2x16384x6144 .fp8e4m3) (S : FVec Ideal S2x16384 .f32) (W : FVec Ideal S6144x160 .bf16)
    (I : IVec S2x16384x6 32) (G : FVec Ideal S2x16384x6 .bf16) (j : S_.Idx) (h : fn X S W I G j = 1#1) (b : Fin 2) (s : Fin 16384)
    (k l : Fin 6) (hkl : k ≠ l) : I (ix3 b s k) ≠ I (ix3 b s l) := by
  have hp : ∀ k l : Fin 6, k ≠ l → ∃ p, (lo p = k ∧ hi p = l) ∨ (lo p = l ∧ hi p = k) := by decide
  obtain ⟨p, ⟨rfl, rfl⟩ | ⟨rfl, rfl⟩⟩ := hp k l hkl
  · exact pair_ne X S W I G j h b s p
  · exact (pair_ne X S W I G j h b s p).symm

end Cert.Pre_distinct_ids

end
-- ==== Proof.Algebraic.lean ====
/-
  The two idealized programs side by side: from the same arguments, with six different experts for every token, each leaves
  the same three functions of the arguments.
-/
module

public import proofs.«01_k».proof.Defs
public import proofs.«01_k».proof.Proof.KResults
public import proofs.«01_k».proof.Proof.RValue
public import proofs.«01_k».proof.Proof.Distinct
public import proofs.«01_k».proof.Proof.Gen.Kernel
public import Idealize.ShloMosaic.Lib.Claim

@[expose] public section

set_option maxRecDepth 16384

noncomputable section

namespace Cert.ReferenceIdeal.Run

open Cert.ReferenceIdeal.Gen
open Idealize.ShloMosaic Idealize.ShloMosaic.TcCoe Idealize.SL.Sem

variable (m : (ℓ : Loc nD τ sig) → Buf (Elt Ideal) ℓ) (ρ : Dev nD → PrngReg)

/-- The results of the reference and its unchanged arguments. -/
theorem results (hd : ∀ c b s k l, k ≠ l → argI m c (ix3 b s k) ≠ argI m c (ix3 b s l)) :
    θ_run defs (onTc (τ := τ) (main (F := Ideal))) ⟨m, fun _ => 0, ρ⟩ (fun r => ∀ c : Dev nD,
      r.2.mem ((c : Thread nD τ).loc main_v0_0)
        = (fun i => Spec.dxW (argX m c) (argS m c) (argW m c) (argI m c) (argG m c) (i 0) (i 1) (i 2) : (⟨3, ![2, 16384, 6144]⟩ : Shape).Idx → EReal)
      ∧ r.2.mem ((c : Thread nD τ).loc main_v0_1)
        = (fun i => Spec.dwW (argX m c) (argS m c) (argW m c) (argI m c) (argG m c) (i 0) (i 1) : (⟨2, ![6144, 160]⟩ : Shape).Idx → EReal)
      ∧ r.2.mem ((c : Thread nD τ).loc main_v0_2)
        = (fun i => Spec.dlogW (argX m c) (argS m c) (argW m c) (argI m c) (argG m c) (i 0) (i 1) (i 2) : (⟨3, ![2, 16384, 160]⟩ : Shape).Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) := by
  run_from run_main m ρ
  · exact arr5 m c (hd c)
  · exact arr6 m c (hd c)
  · exact arr7 m c (hd c)

end Cert.ReferenceIdeal.Run

namespace Cert.Proof

open Idealize.ShloMosaic Idealize.ShloMosaic.TcCoe Idealize.SL.Sem

attribute [local instance] Cert.Kernel.Gen.facts Cert.KernelIdeal.Gen.facts Cert.ReferenceIdeal.Gen.facts Cert.Pre_distinct_ids.Gen.facts

/-- Kernel and reference compute the same three results over the extended reals. -/
theorem algebraic : Cert.algebraic_KernelIdeal_ReferenceIdeal_pre_distinct_ids := by
  intro m g m' g' hpre hagree
  have hd : ∀ c b s k l, k ≠ l → Cert.KernelIdeal.Run.argI m c (ix3 b s k) ≠ Cert.KernelIdeal.Run.argI m c (ix3 b s l) := by
    intro c b s k l hkl
    exact Cert.Pre_distinct_ids.distinct _ _ _ _ _ (fun a => a.elim0) (congrFun (hpre c) _) b s k l hkl
  have hd' : ∀ c b s k l, k ≠ l → Cert.ReferenceIdeal.Run.argI m' c (ix3 b s k) ≠ Cert.ReferenceIdeal.Run.argI m' c (ix3 b s l) := by
    intro c
    have e : Cert.ReferenceIdeal.Run.argI m' c = Cert.KernelIdeal.Run.argI m c := (hagree c).2.2.2.1
    rw [e]
    exact hd c
  refine ⟨Cert.KernelIdeal.Run.dxRes m, Cert.KernelIdeal.Run.dwRes m, Cert.KernelIdeal.Run.dlRes m,
    Cert.KernelIdeal.Run.results m g, ?_⟩
  refine θ_run_mono (Cert.ReferenceIdeal.Run.results m' g' hd') fun r h c => ?_
  have e0 : Cert.ReferenceIdeal.Run.argX m' c = Cert.KernelIdeal.Run.argX m c := (hagree c).1
  have e1 : Cert.ReferenceIdeal.Run.argS m' c = Cert.KernelIdeal.Run.argS m c := (hagree c).2.1
  have e2 : Cert.ReferenceIdeal.Run.argW m' c = Cert.KernelIdeal.Run.argW m c := (hagree c).2.2.1
  have e3 : Cert.ReferenceIdeal.Run.argI m' c = Cert.KernelIdeal.Run.argI m c := (hagree c).2.2.2.1
  have e4 : Cert.ReferenceIdeal.Run.argG m' c = Cert.KernelIdeal.Run.argG m c := (hagree c).2.2.2.2
  obtain ⟨h0, h1, h2, hr⟩ := h c
  rw [e0, e1, e2, e3, e4] at h0 h1 h2
  exact ⟨h0, h1, h2, hr⟩

end Cert.Proof

end
-- ==== Proof.PRuns.lean ====
/- What the three cases of the printed kernel share: the frame from any run that leaves the outputs' contents open, the branch
   conditions over the grid points, and the memrefs the body runs on. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v4, main_v5}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_1, k0_cond2, e0]
    word_cmp
   : ∀ t : Fin grid0.N, cond0_1 (grid0.coords t) ↔ t.val % 65 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i0 and i0 ≤ 63 — decided over the grid. -/
theorem hcond0_2 : ∀ t : Fin cfg0.N, cond0_2 (grid0.coords t) ↔ (1 ≤ t.val % 65 ∧ t.val % 65 ≤ 63) :=
  (by decide +kernel : ∀ t : Fin grid0.N, cond0_2 (grid0.coords t) ↔ (1 ≤ t.val % 65 ∧ t.val % 65 ≤ 63))

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_3, k0_cond4, e0]
    word_cmp
   : ∀ t : Fin grid0.N, cond0_3 (grid0.coords t) ↔ t.val % 65 = 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x256x6144 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S160x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x2x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x2x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x256x6144 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S160x6144 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x160x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x6144 .bf16 := Memref.whole cc0_scratch0
abbrev scM0_1 : Memref sig .tc .vmem S2x256x256 .bf16 := Memref.whole cc0_scratch1
abbrev scM0_2 : Memref sig .tc .vmem S2x160x256 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Run

end
-- ==== Proof.PRunA.lean ====
/- The printed kernel's body at the first point, its outputs left at some contents. -/
module

public import proofs.«01_k».proof.Proof.PRuns

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1220000 in
/-- The body's triple IN CASE A (`scf.if` 0 taken, `scf.if` 1 taken, `scf.if` 2 not taken, `scf.if` 3 not taken: points 0): on whole staging memrefs — the inputs' at their contents,
    the forgotten outputs' (5, 6, 7) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_A (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole) (hc0 : cond0_0 i) (hc1 : cond0_1 i) (hc2 : ¬cond0_2 i) (hc3 : ¬cond0_3 i)
    (x0 : Vec F S2x256x6144 .fp8e4m3) (x1 : Vec F S2x256 .f32) (x2 : Vec F S160x6144 .bf16) (x3 : Vec F S6x2x256 .i32) (x4 : Vec F S6x2x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_router_bwd i arg1 harg1 arg2 harg2 arg3 harg3 arg4 harg4 arg5 harg5 arg6 harg6 arg7 harg7 arg8 harg8 arg9 harg9 arg10 harg10 arg11 harg11) K := by
    intro E K
    simp only [cc0_router_bwd_eq_skeleton]; unfold cc0_router_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Run

end
-- ==== Proof.PRunB.lean ====
/- The printed kernel's body at a middle point, its outputs left at some contents. -/
module

public import proofs.«01_k».proof.Proof.PRunA

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2264000 in
/-- The body's triple IN CASE B (`scf.if` 0 not taken, `scf.if` 1 not taken, `scf.if` 2 taken, `scf.if` 3 not taken: points 1, 2, … 63: 63 of 65): on whole staging memrefs — the inputs' at their contents,
    the forgotten outputs' (5, 6, 7) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_B (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole) (hc0 : ¬cond0_0 i) (hc1 : ¬cond0_1 i) (hc2 : cond0_2 i) (hc3 : ¬cond0_3 i)
    (x0 : Vec F S2x256x6144 .fp8e4m3) (x1 : Vec F S2x256 .f32) (x2 : Vec F S160x6144 .bf16) (x3 : Vec F S6x2x256 .i32) (x4 : Vec F S6x2x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_router_bwd i arg1 harg1 arg2 harg2 arg3 harg3 arg4 harg4 arg5 harg5 arg6 harg6 arg7 harg7 arg8 harg8 arg9 harg9 arg10 harg10 arg11 harg11) K := by
    intro E K
    simp only [cc0_router_bwd_eq_skeleton]; unfold cc0_router_bwd_skel
    simp only [k0_part57_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Run

end
-- ==== Proof.PRunC.lean ====
/- The printed kernel's body at the last point, its outputs left at some contents. -/
module

public import proofs.«01_k».proof.Proof.PRunB

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1168000 in
/-- The body's triple IN CASE C (`scf.if` 0 not taken, `scf.if` 1 not taken, `scf.if` 2 not taken, `scf.if` 3 taken: points 64): on whole staging memrefs — the inputs' at their contents,
    the forgotten outputs' (5, 6, 7) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_C (c : Dev nD) (i : grid0.Coords) (arg1 : Memref sig .tc .vmem S2x256x6144 .fp8e4m3) (harg1 : arg1.IsWhole) (arg2 : Memref sig .tc .vmem S2x256 .f32) (harg2 : arg2.IsWhole) (arg3 : Memref sig .tc .vmem S160x6144 .bf16) (harg3 : arg3.IsWhole) (arg4 : Memref sig .tc .vmem S6x2x256 .i32) (harg4 : arg4.IsWhole) (arg5 : Memref sig .tc .vmem S6x2x256 .bf16) (harg5 : arg5.IsWhole) (arg6 : Memref sig .tc .vmem S2x256x6144 .bf16) (harg6 : arg6.IsWhole) (arg7 : Memref sig .tc .vmem S160x6144 .f32) (harg7 : arg7.IsWhole) (arg8 : Memref sig .tc .vmem S2x160x256 .f32) (harg8 : arg8.IsWhole) (arg9 : Memref sig .tc .vmem S256x6144 .bf16) (harg9 : arg9.IsWhole) (arg10 : Memref sig .tc .vmem S2x256x256 .bf16) (harg10 : arg10.IsWhole) (arg11 : Memref sig .tc .vmem S2x160x256 .bf16) (harg11 : arg11.IsWhole) (hc0 : ¬cond0_0 i) (hc1 : ¬cond0_1 i) (hc2 : ¬cond0_2 i) (hc3 : cond0_3 i)
    (x0 : Vec F S2x256x6144 .fp8e4m3) (x1 : Vec F S2x256 .f32) (x2 : Vec F S160x6144 .bf16) (x3 : Vec F S6x2x256 .i32) (x4 : Vec F S6x2x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_router_bwd i arg1 harg1 arg2 harg2 arg3 harg3 arg4 harg4 arg5 harg5 arg6 harg6 arg7 harg7 arg8 harg8 arg9 harg9 arg10 harg10 arg11 harg11) K := by
    intro E K
    simp only [cc0_router_bwd_eq_skeleton]; unfold cc0_router_bwd_skel
    simp only [k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Run

end
-- ==== Proof.PFrame.lean ====
/- The frame of the printed kernel, over any floats: every point runs and leaves its inputs, and nothing is said of the outputs. -/
module

public import proofs.«01_k».proof.Proof.PRunC
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate forgets (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, forgotten, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 65 := lt_of_lt_of_eq t.isLt (show cfg0.N = 65 from N_0)
  by_cases h0 : t.val % 65 = 0
  · by_cases h1 : t.val % 65 = 0
    · by_cases h2 : (1 ≤ t.val % 65 ∧ t.val % 65 ≤ 63)
      · exfalso; omega
      · by_cases h3 : t.val % 65 = 64
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t)) Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          isplitl [HS1]; · iexact HS1
          isplitl [HS2]; · iexact HS2
          iintro ⟨H0, H1, H2, H3, H4, H5, H6, H7, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
    · exfalso; omega
  · by_cases h1 : t.val % 65 = 0
    · exfalso; omega
    · by_cases h2 : (1 ≤ t.val % 65 ∧ t.val % 65 ≤ 63)
      · by_cases h3 : t.val % 65 = 64
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_B c (grid0.coords t) _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t)) Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          isplitl [HS1]; · iexact HS1
          isplitl [HS2]; · iexact HS2
          iintro ⟨H0, H1, H2, H3, H4, H5, H6, H7, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
      · by_cases h3 : t.val % 65 = 64
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_C c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t)) Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          isplitl [HS1]; · iexact HS1
          isplitl [HS2]; · iexact HS2
          iintro ⟨H0, H1, H2, H3, H4, H5, H6, H7, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    forgotten outputs (windows 5, 6, 7) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_distinct_ids
public import proofs.«01_k».proof.Proof.Algebraic
public import proofs.«01_k».proof.Proof.PFrame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_distinct_ids.Gen.facts, by
  exact ⟨fun m ρ _ => Cert.Kernel.Run.frame m ρ, fun m ρ _ => Cert.KernelIdeal.Run.frame m ρ,
    fun m ρ _ => Cert.KernelIdeal.Run.frame m ρ, fun m ρ _ => Cert.ReferenceIdeal.Gen.frame m ρ,
    fun m ρ _ => Cert.ReferenceIdeal.Gen.frame m ρ, trivial, algebraic⟩⟩

end Cert.Proof

end
